-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x224x224 : Shape := ⟨4, ![4, 384, 224, 224]⟩
abbrev S_ : Shape := ⟨0, ![]⟩
abbrev S1 : Shape := ⟨1, ![1]⟩
abbrev S2 : Shape := ⟨1, ![2]⟩
abbrev S1x1 : Shape := ⟨2, ![1, 1]⟩
abbrev S4x196 : Shape := ⟨2, ![4, 196]⟩
abbrev S4x98 : Shape := ⟨2, ![4, 98]⟩
abbrev S4x1x98 : Shape := ⟨3, ![4, 1, 98]⟩
abbrev S14 : Shape := ⟨1, ![14]⟩
abbrev S1x14x1 : Shape := ⟨3, ![1, 14, 1]⟩
abbrev S4x14x98 : Shape := ⟨3, ![4, 14, 98]⟩
abbrev S4x14 : Shape := ⟨2, ![4, 14]⟩
abbrev S4x1 : Shape := ⟨2, ![4, 1]⟩
abbrev S4x13 : Shape := ⟨2, ![4, 13]⟩
abbrev S4x98x1 : Shape := ⟨3, ![4, 98, 1]⟩
abbrev S1x1x1 : Shape := ⟨3, ![1, 1, 1]⟩
abbrev S98 : Shape := ⟨1, ![98]⟩
abbrev S1x98 : Shape := ⟨2, ![1, 98]⟩
abbrev S4 : Shape := ⟨1, ![4]⟩
abbrev S4x14x14 : Shape := ⟨3, ![4, 14, 14]⟩
abbrev S4x98x3 : Shape := ⟨3, ![4, 98, 3]⟩
abbrev S4x224x224x384 : Shape := ⟨4, ![4, 224, 224, 384]⟩
abbrev S4x14x16x224x384 : Shape := ⟨5, ![4, 14, 16, 224, 384]⟩
abbrev S4x16x16x98x384 : Shape := ⟨5, ![4, 16, 16, 98, 384]⟩
abbrev S1x1x16x224x384 : Shape := ⟨5, ![1, 1, 16, 224, 384]⟩
abbrev S1x16x16x1x384 : Shape := ⟨5, ![1, 16, 16, 1, 384]⟩
abbrev S16x16x384 : Shape := ⟨3, ![16, 16, 384]⟩
abbrev S1x1x16x16x384 : Shape := ⟨5, ![1, 1, 16, 16, 384]⟩
abbrev S4x25088x384 : Shape := ⟨3, ![4, 25088, 384]⟩

abbrev nBuf : Space → Nat
  | .hbm => 706
  | .vmem => 2
  | .smem => 3
  | _ => 0

abbrev hbmTy0_0 (i : Nat) : BufTy := match i % 128 with
  | 0 => ⟨S4x384x224x224, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S4x384x224x224, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S_, .f32⟩
  | 121 => ⟨S_, .f32⟩
  | 122 => ⟨S_, .f32⟩
  | 123 => ⟨S_, .f32⟩
  | 124 => ⟨S1x1, .f32⟩
  | 125 => ⟨S1x1, .f32⟩
  | 126 => ⟨S1, .i32⟩
  | 127 => ⟨S_, .i32⟩
  | _ => ⟨S4x384x224x224, .f32⟩

abbrev hbmTy0_2 (i : Nat) : BufTy := match i % 128 with
  | 0 => ⟨S1, .i32⟩
  | 1 => ⟨S_, .i32⟩
  | 2 => ⟨S4x196, .i64⟩
  | 3 => ⟨S4x196, .i64⟩
  | 4 => ⟨S_, .i64⟩
  | 5 => ⟨S4x196, .i64⟩
  | 6 => ⟨S4x196, .i64⟩
  | 7 => ⟨S_, .i64⟩
  | 8 => ⟨S4x196, .i64⟩
  | 9 => ⟨S4x196, .i64⟩
  | 10 => ⟨S4x196, .i64⟩
  | 11 => ⟨S_, .i64⟩
  | 12 => ⟨S4x196, .i64⟩
  | 13 => ⟨S4x196, .i64⟩
  | 14 => ⟨S4x196, .i32⟩
  | 15 => ⟨S4x196, .i32⟩
  | 16 => ⟨S_, .i32⟩
  | 17 => ⟨S_, .i32⟩
  | 18 => ⟨S_, .i32⟩
  | 19 => ⟨S4x196, .i32⟩
  | 20 => ⟨S4x196, .i32⟩
  | 21 => ⟨S4x196, .i32⟩
  | 22 => ⟨S4x196, .i32⟩
  | 23 => ⟨S4x196, .i32⟩
  | 24 => ⟨S_, .i32⟩
  | 25 => ⟨S4x196, .i32⟩
  | 26 => ⟨S4x196, .i32⟩
  | 27 => ⟨S_, .i32⟩
  | 28 => ⟨S4x196, .i32⟩
  | 29 => ⟨S4x196, .i32⟩
  | 30 => ⟨S4x196, .i32⟩
  | 31 => ⟨S4x196, .i32⟩
  | 32 => ⟨S4x196, .i32⟩
  | 33 => ⟨S_, .i32⟩
  | 34 => ⟨S4x196, .i32⟩
  | 35 => ⟨S4x196, .i32⟩
  | 36 => ⟨S_, .i32⟩
  | 37 => ⟨S4x196, .i32⟩
  | 38 => ⟨S4x196, .i32⟩
  | 39 => ⟨S4x196, .i32⟩
  | 40 => ⟨S4x196, .i32⟩
  | 41 => ⟨S4x196, .i32⟩
  | 42 => ⟨S_, .i32⟩
  | 43 => ⟨S4x196, .i32⟩
  | 44 => ⟨S4x196, .i32⟩
  | 45 => ⟨S_, .i32⟩
  | 46 => ⟨S4x196, .i32⟩
  | 47 => ⟨S4x196, .i32⟩
  | 48 => ⟨S4x196, .i32⟩
  | 49 => ⟨S4x196, .i32⟩
  | 50 => ⟨S4x196, .i32⟩
  | 51 => ⟨S_, .i32⟩
  | 52 => ⟨S4x196, .i32⟩
  | 53 => ⟨S4x196, .i32⟩
  | 54 => ⟨S_, .i32⟩
  | 55 => ⟨S4x196, .i32⟩
  | 56 => ⟨S4x196, .i32⟩
  | 57 => ⟨S4x196, .i32⟩
  | 58 => ⟨S4x196, .i32⟩
  | 59 => ⟨S4x196, .i32⟩
  | 60 => ⟨S4x196, .i32⟩
  | 61 => ⟨S4x196, .i32⟩
  | 62 => ⟨S4x196, .i32⟩
  | 63 => ⟨S_, .i32⟩
  | 64 => ⟨S4x196, .i32⟩
  | 65 => ⟨S4x196, .i32⟩
  | 66 => ⟨S4x196, .i32⟩
  | 67 => ⟨S_, .i32⟩
  | 68 => ⟨S4x196, .i32⟩
  | 69 => ⟨S4x196, .i32⟩
  | 70 => ⟨S_, .i32⟩
  | 71 => ⟨S4x196, .i32⟩
  | 72 => ⟨S4x196, .i32⟩
  | 73 => ⟨S4x196, .i32⟩
  | 74 => ⟨S4x196, .i32⟩
  | 75 => ⟨S4x196, .i32⟩
  | 76 => ⟨S_, .i32⟩
  | 77 => ⟨S4x196, .i32⟩
  | 78 => ⟨S4x196, .i32⟩
  | 79 => ⟨S_, .i32⟩
  | 80 => ⟨S4x196, .i32⟩
  | 81 => ⟨S4x196, .i32⟩
  | 82 => ⟨S4x196, .i32⟩
  | 83 => ⟨S4x196, .i32⟩
  | 84 => ⟨S4x196, .i32⟩
  | 85 => ⟨S_, .i32⟩
  | 86 => ⟨S4x196, .i32⟩
  | 87 => ⟨S4x196, .i32⟩
  | 88 => ⟨S_, .i32⟩
  | 89 => ⟨S4x196, .i32⟩
  | 90 => ⟨S4x196, .i32⟩
  | 91 => ⟨S4x196, .i32⟩
  | 92 => ⟨S4x196, .i32⟩
  | 93 => ⟨S4x196, .i32⟩
  | 94 => ⟨S_, .i32⟩
  | 95 => ⟨S4x196, .i32⟩
  | 96 => ⟨S4x196, .i32⟩
  | 97 => ⟨S_, .i32⟩
  | 98 => ⟨S4x196, .i32⟩
  | 99 => ⟨S4x196, .i32⟩
  | 100 => ⟨S4x196, .i32⟩
  | 101 => ⟨S4x196, .i32⟩
  | 102 => ⟨S4x196, .i32⟩
  | 103 => ⟨S4x196, .i32⟩
  | 104 => ⟨S4x196, .i32⟩
  | 105 => ⟨S4x196, .i32⟩
  | 106 => ⟨S_, .i32⟩
  | 107 => ⟨S4x196, .i32⟩
  | 108 => ⟨S4x196, .i32⟩
  | 109 => ⟨S4x196, .i32⟩
  | 110 => ⟨S_, .i32⟩
  | 111 => ⟨S4x196, .i32⟩
  | 112 => ⟨S4x196, .i32⟩
  | 113 => ⟨S_, .i32⟩
  | 114 => ⟨S4x196, .i32⟩
  | 115 => ⟨S4x196, .i32⟩
  | 116 => ⟨S4x196, .i32⟩
  | 117 => ⟨S4x196, .i32⟩
  | 118 => ⟨S4x196, .i32⟩
  | 119 => ⟨S_, .i32⟩
  | 120 => ⟨S4x196, .i32⟩
  | 121 => ⟨S4x196, .i32⟩
  | 122 => ⟨S_, .i32⟩
  | 123 => ⟨S4x196, .i32⟩
  | 124 => ⟨S4x196, .i32⟩
  | 125 => ⟨S4x196, .i32⟩
  | 126 => ⟨S4x196, .i32⟩
  | 127 => ⟨S4x196, .i32⟩
  | _ => ⟨S4x384x224x224, .f32⟩

abbrev hbmTy0_3 (i : Nat) : BufTy := match i % 128 with
  | 0 => ⟨S_, .i32⟩
  | 1 => ⟨S4x196, .i32⟩
  | 2 => ⟨S4x196, .i32⟩
  | 3 => ⟨S_, .i32⟩
  | 4 => ⟨S4x196, .i32⟩
  | 5 => ⟨S4x196, .i32⟩
  | 6 => ⟨S4x196, .i32⟩
  | 7 => ⟨S4x196, .i32⟩
  | 8 => ⟨S4x196, .i32⟩
  | 9 => ⟨S_, .i32⟩
  | 10 => ⟨S4x196, .i32⟩
  | 11 => ⟨S4x196, .i32⟩
  | 12 => ⟨S_, .i32⟩
  | 13 => ⟨S4x196, .i32⟩
  | 14 => ⟨S4x196, .i32⟩
  | 15 => ⟨S4x196, .i32⟩
  | 16 => ⟨S4x196, .i32⟩
  | 17 => ⟨S4x196, .i32⟩
  | 18 => ⟨S4x196, .i32⟩
  | 19 => ⟨S4x196, .i32⟩
  | 20 => ⟨S4x196, .i32⟩
  | 21 => ⟨S_, .i32⟩
  | 22 => ⟨S4x196, .i32⟩
  | 23 => ⟨S4x196, .i32⟩
  | 24 => ⟨S4x196, .i32⟩
  | 25 => ⟨S_, .i32⟩
  | 26 => ⟨S4x196, .i32⟩
  | 27 => ⟨S4x196, .i32⟩
  | 28 => ⟨S_, .i32⟩
  | 29 => ⟨S4x196, .i32⟩
  | 30 => ⟨S4x196, .i32⟩
  | 31 => ⟨S4x196, .i32⟩
  | 32 => ⟨S4x196, .i32⟩
  | 33 => ⟨S4x196, .i32⟩
  | 34 => ⟨S_, .i32⟩
  | 35 => ⟨S4x196, .i32⟩
  | 36 => ⟨S4x196, .i32⟩
  | 37 => ⟨S_, .i32⟩
  | 38 => ⟨S4x196, .i32⟩
  | 39 => ⟨S4x196, .i32⟩
  | 40 => ⟨S4x196, .i32⟩
  | 41 => ⟨S4x196, .i32⟩
  | 42 => ⟨S4x196, .i32⟩
  | 43 => ⟨S_, .i32⟩
  | 44 => ⟨S4x196, .i32⟩
  | 45 => ⟨S4x196, .i32⟩
  | 46 => ⟨S_, .i32⟩
  | 47 => ⟨S4x196, .i32⟩
  | 48 => ⟨S4x196, .i32⟩
  | 49 => ⟨S4x196, .i32⟩
  | 50 => ⟨S4x196, .i32⟩
  | 51 => ⟨S4x196, .i32⟩
  | 52 => ⟨S_, .i32⟩
  | 53 => ⟨S4x196, .i32⟩
  | 54 => ⟨S4x196, .i32⟩
  | 55 => ⟨S_, .i32⟩
  | 56 => ⟨S4x196, .i32⟩
  | 57 => ⟨S4x196, .i32⟩
  | 58 => ⟨S4x196, .i32⟩
  | 59 => ⟨S4x196, .i32⟩
  | 60 => ⟨S4x196, .i32⟩
  | 61 => ⟨S4x196, .i32⟩
  | 62 => ⟨S4x196, .i32⟩
  | 63 => ⟨S4x196, .i32⟩
  | 64 => ⟨S_, .i32⟩
  | 65 => ⟨S4x196, .i32⟩
  | 66 => ⟨S4x196, .i32⟩
  | 67 => ⟨S4x196, .i32⟩
  | 68 => ⟨S_, .i32⟩
  | 69 => ⟨S4x196, .i32⟩
  | 70 => ⟨S4x196, .i32⟩
  | 71 => ⟨S_, .i32⟩
  | 72 => ⟨S4x196, .i32⟩
  | 73 => ⟨S4x196, .i32⟩
  | 74 => ⟨S4x196, .i32⟩
  | 75 => ⟨S4x196, .i32⟩
  | 76 => ⟨S4x196, .i32⟩
  | 77 => ⟨S_, .i32⟩
  | 78 => ⟨S4x196, .i32⟩
  | 79 => ⟨S4x196, .i32⟩
  | 80 => ⟨S_, .i32⟩
  | 81 => ⟨S4x196, .i32⟩
  | 82 => ⟨S4x196, .i32⟩
  | 83 => ⟨S4x196, .i32⟩
  | 84 => ⟨S4x196, .i32⟩
  | 85 => ⟨S4x196, .i32⟩
  | 86 => ⟨S_, .i32⟩
  | 87 => ⟨S4x196, .i32⟩
  | 88 => ⟨S4x196, .i32⟩
  | 89 => ⟨S_, .i32⟩
  | 90 => ⟨S4x196, .i32⟩
  | 91 => ⟨S4x196, .i32⟩
  | 92 => ⟨S4x196, .i32⟩
  | 93 => ⟨S4x196, .i32⟩
  | 94 => ⟨S4x196, .i32⟩
  | 95 => ⟨S_, .i32⟩
  | 96 => ⟨S4x196, .i32⟩
  | 97 => ⟨S4x196, .i32⟩
  | 98 => ⟨S_, .i32⟩
  | 99 => ⟨S4x196, .i32⟩
  | 100 => ⟨S4x196, .i32⟩
  | 101 => ⟨S4x196, .i32⟩
  | 102 => ⟨S4x196, .i32⟩
  | 103 => ⟨S4x196, .i32⟩
  | 104 => ⟨S4x196, .i32⟩
  | 105 => ⟨S4x196, .i32⟩
  | 106 => ⟨S4x196, .i32⟩
  | 107 => ⟨S_, .i32⟩
  | 108 => ⟨S4x196, .i32⟩
  | 109 => ⟨S4x196, .i32⟩
  | 110 => ⟨S4x196, .i32⟩
  | 111 => ⟨S_, .i32⟩
  | 112 => ⟨S4x196, .i32⟩
  | 113 => ⟨S4x196, .i32⟩
  | 114 => ⟨S_, .i32⟩
  | 115 => ⟨S4x196, .i32⟩
  | 116 => ⟨S4x196, .i32⟩
  | 117 => ⟨S4x196, .f32⟩
  | 118 => ⟨S_, .f32⟩
  | 119 => ⟨S4x196, .f32⟩
  | 120 => ⟨S4x196, .f32⟩
  | 121 => ⟨S1x1, .f32⟩
  | 122 => ⟨S4x196, .f32⟩
  | 123 => ⟨S4x196, .f32⟩
  | 124 => ⟨S4x196, .f32⟩
  | 125 => ⟨S4x196, .f32⟩
  | 126 => ⟨S4x196, .f32⟩
  | 127 => ⟨S4x196, .f32⟩
  | _ => ⟨S4x384x224x224, .f32⟩

abbrev hbmTy0_4 (i : Nat) : BufTy := match i % 128 with
  | 0 => ⟨S4x196, .i32⟩
  | 1 => ⟨S4x196, .f32⟩
  | 2 => ⟨S4x196, .i32⟩
  | 3 => ⟨S4x98, .i32⟩
  | 4 => ⟨S_, .i32⟩
  | 5 => ⟨S_, .i32⟩
  | 6 => ⟨S4x98, .i32⟩
  | 7 => ⟨S4x98, .i32⟩
  | 8 => ⟨S4x98, .i32⟩
  | 9 => ⟨S_, .i32⟩
  | 10 => ⟨S4x98, .i32⟩
  | 11 => ⟨S4x98, .i1⟩
  | 12 => ⟨S4x98, .i32⟩
  | 13 => ⟨S4x98, .i32⟩
  | 14 => ⟨S_, .i32⟩
  | 15 => ⟨S4x98, .i32⟩
  | 16 => ⟨S4x98, .i1⟩
  | 17 => ⟨S4x98, .i1⟩
  | 18 => ⟨S_, .i32⟩
  | 19 => ⟨S4x98, .i32⟩
  | 20 => ⟨S4x98, .i32⟩
  | 21 => ⟨S4x98, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S4x98, .i32⟩
  | 29 => ⟨S4x98, .i32⟩
  | 30 => ⟨S_, .i32⟩
  | 31 => ⟨S4x98, .i32⟩
  | 32 => ⟨S4x98, .i1⟩
  | 33 => ⟨S_, .i32⟩
  | 34 => ⟨S4x98, .i32⟩
  | 35 => ⟨S4x98, .i1⟩
  | 36 => ⟨S_, .i32⟩
  | 37 => ⟨S_, .i1⟩
  | 38 => ⟨S4x98, .i1⟩
  | 39 => ⟨S4x98, .i1⟩
  | 40 => ⟨S4x98, .i1⟩
  | 41 => ⟨S4x98, .i32⟩
  | 42 => ⟨S4x98, .i32⟩
  | 43 => ⟨S4x98, .i32⟩
  | 44 => ⟨S4x1x98, .i32⟩
  | 45 => ⟨S14, .i32⟩
  | 46 => ⟨S1x14x1, .i32⟩
  | 47 => ⟨S4x14x98, .i32⟩
  | 48 => ⟨S4x14x98, .i32⟩
  | 49 => ⟨S4x14x98, .i1⟩
  | 50 => ⟨S4x14x98, .i32⟩
  | 51 => ⟨S_, .i32⟩
  | 52 => ⟨S_, .i32⟩
  | 53 => ⟨S4x1, .i32⟩
  | 54 => ⟨S_, .i32⟩
  | 55 => ⟨S_, .i32⟩
  | 56 => ⟨S4x14, .i32⟩
  | 57 => ⟨S4x13, .i32⟩
  | 58 => ⟨S4x14, .i32⟩
  | 59 => ⟨S4x98, .i32⟩
  | 60 => ⟨S4x98, .i32⟩
  | 61 => ⟨S4x98, .i32⟩
  | 62 => ⟨S_, .i32⟩
  | 63 => ⟨S4x98, .i32⟩
  | 64 => ⟨S4x98, .i1⟩
  | 65 => ⟨S_, .i32⟩
  | 66 => ⟨S4x98, .i32⟩
  | 67 => ⟨S4x98, .i32⟩
  | 68 => ⟨S4x98, .i32⟩
  | 69 => ⟨S4x98x1, .i32⟩
  | 70 => ⟨S1, .i32⟩
  | 71 => ⟨S_, .i32⟩
  | 72 => ⟨S4x98x1, .i32⟩
  | 73 => ⟨S4x98x1, .i1⟩
  | 74 => ⟨S1x1x1, .i32⟩
  | 75 => ⟨S4x98x1, .i32⟩
  | 76 => ⟨S4x98x1, .i1⟩
  | 77 => ⟨S4x98x1, .i1⟩
  | 78 => ⟨S_, .i1⟩
  | 79 => ⟨S4x98, .i1⟩
  | 80 => ⟨S4x98, .i32⟩
  | 81 => ⟨S_, .i32⟩
  | 82 => ⟨S4x98, .i32⟩
  | 83 => ⟨S4x98, .i32⟩
  | 84 => ⟨S_, .i32⟩
  | 85 => ⟨S4x98, .i32⟩
  | 86 => ⟨S4x98, .i1⟩
  | 87 => ⟨S_, .i32⟩
  | 88 => ⟨S4x98, .i32⟩
  | 89 => ⟨S4x98, .i32⟩
  | 90 => ⟨S4x98, .i32⟩
  | 91 => ⟨S4x98x1, .i32⟩
  | 92 => ⟨S1, .i32⟩
  | 93 => ⟨S_, .i32⟩
  | 94 => ⟨S4x98x1, .i32⟩
  | 95 => ⟨S4x98x1, .i1⟩
  | 96 => ⟨S1x1x1, .i32⟩
  | 97 => ⟨S4x98x1, .i32⟩
  | 98 => ⟨S4x98x1, .i1⟩
  | 99 => ⟨S4x98x1, .i1⟩
  | 100 => ⟨S_, .i1⟩
  | 101 => ⟨S4x98, .i1⟩
  | 102 => ⟨S4x98, .i32⟩
  | 103 => ⟨S_, .i32⟩
  | 104 => ⟨S4x98, .i32⟩
  | 105 => ⟨S4x98, .i32⟩
  | 106 => ⟨S98, .i32⟩
  | 107 => ⟨S1x98, .i32⟩
  | 108 => ⟨S_, .i32⟩
  | 109 => ⟨S4x98, .i32⟩
  | 110 => ⟨S4x98, .i1⟩
  | 111 => ⟨S_, .i32⟩
  | 112 => ⟨S4x98, .i32⟩
  | 113 => ⟨S4x98, .i32⟩
  | 114 => ⟨S4x98, .i32⟩
  | 115 => ⟨S4x98x1, .i32⟩
  | 116 => ⟨S1, .i32⟩
  | 117 => ⟨S_, .i32⟩
  | 118 => ⟨S4x98x1, .i32⟩
  | 119 => ⟨S4x98x1, .i1⟩
  | 120 => ⟨S1x1x1, .i32⟩
  | 121 => ⟨S4x98x1, .i32⟩
  | 122 => ⟨S4x98x1, .i1⟩
  | 123 => ⟨S4x98x1, .i1⟩
  | 124 => ⟨S_, .i1⟩
  | 125 => ⟨S4x98, .i1⟩
  | 126 => ⟨S4x98, .i32⟩
  | 127 => ⟨S_, .i32⟩
  | _ => ⟨S4x384x224x224, .f32⟩

abbrev hbmTy0_5 (i : Nat) : BufTy := match i % 128 with
  | 0 => ⟨S4x98, .i32⟩
  | 1 => ⟨S4x98, .i32⟩
  | 2 => ⟨S4x98, .i32⟩
  | 3 => ⟨S4x98, .i32⟩
  | 4 => ⟨S4, .i32⟩
  | 5 => ⟨S4x1, .i32⟩
  | 6 => ⟨S_, .i32⟩
  | 7 => ⟨S4x14x14, .i32⟩
  | 8 => ⟨S_, .i32⟩
  | 9 => ⟨S4x1, .i32⟩
  | 10 => ⟨S4x1, .i1⟩
  | 11 => ⟨S_, .i32⟩
  | 12 => ⟨S4x1, .i32⟩
  | 13 => ⟨S4x1, .i32⟩
  | 14 => ⟨S4x1, .i32⟩
  | 15 => ⟨S_, .i32⟩
  | 16 => ⟨S4x98, .i32⟩
  | 17 => ⟨S4x98, .i1⟩
  | 18 => ⟨S_, .i32⟩
  | 19 => ⟨S4x98, .i32⟩
  | 20 => ⟨S4x98, .i32⟩
  | 21 => ⟨S4x98, .i32⟩
  | 22 => ⟨S_, .i32⟩
  | 23 => ⟨S4x98, .i32⟩
  | 24 => ⟨S4x98, .i1⟩
  | 25 => ⟨S_, .i32⟩
  | 26 => ⟨S4x98, .i32⟩
  | 27 => ⟨S4x98, .i32⟩
  | 28 => ⟨S4x98, .i32⟩
  | 29 => ⟨S4x98, .i32⟩
  | 30 => ⟨S4x98x1, .i32⟩
  | 31 => ⟨S4x98x1, .i32⟩
  | 32 => ⟨S4x98x1, .i32⟩
  | 33 => ⟨S4x98x3, .i32⟩
  | 34 => ⟨S_, .i32⟩
  | 35 => ⟨S4x14x14, .i32⟩
  | 36 => ⟨S_, .i32⟩
  | 37 => ⟨S4x1, .i32⟩
  | 38 => ⟨S4x1, .i1⟩
  | 39 => ⟨S_, .i32⟩
  | 40 => ⟨S4x1, .i32⟩
  | 41 => ⟨S4x1, .i32⟩
  | 42 => ⟨S4x1, .i32⟩
  | 43 => ⟨S_, .i32⟩
  | 44 => ⟨S4x98, .i32⟩
  | 45 => ⟨S4x98, .i1⟩
  | 46 => ⟨S_, .i32⟩
  | 47 => ⟨S4x98, .i32⟩
  | 48 => ⟨S4x98, .i32⟩
  | 49 => ⟨S4x98, .i32⟩
  | 50 => ⟨S_, .i32⟩
  | 51 => ⟨S4x98, .i32⟩
  | 52 => ⟨S4x98, .i1⟩
  | 53 => ⟨S_, .i32⟩
  | 54 => ⟨S4x98, .i32⟩
  | 55 => ⟨S4x98, .i32⟩
  | 56 => ⟨S4x98, .i32⟩
  | 57 => ⟨S4x98, .i32⟩
  | 58 => ⟨S4x98x1, .i32⟩
  | 59 => ⟨S4x98x1, .i32⟩
  | 60 => ⟨S4x98x1, .i32⟩
  | 61 => ⟨S4x98x3, .i32⟩
  | 62 => ⟨S4x224x224x384, .f32⟩
  | 63 => ⟨S4x14x16x224x384, .f32⟩
  | 64 => ⟨S4x16x16x98x384, .f32⟩
  | 65 => ⟨S4x25088x384, .f32⟩
  | _ => ⟨S4x384x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x384x224x224, .f32⟩

abbrev bufTy : (tb : Table) → Fin (tcTables nBuf tb) → BufTy
  | .hbm, ⟨i, _⟩ => hbmTy i
  | .local _ .vmem, ⟨0, _⟩ => ⟨S1x1x16x224x384, .f32⟩
  | .local _ .vmem, ⟨1, _⟩ => ⟨S1x1x16x224x384, .f32⟩
  | .local _ .smem, ⟨0, _⟩ => ⟨S4x14, .i32⟩
  | .local _ .smem, ⟨1, _⟩ => ⟨S4x14x14, .i32⟩
  | .local _ .smem, ⟨2, _⟩ => ⟨S4x14x14, .i32⟩
  | _, _ => ⟨S4x384x224x224, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_cst : Ref sig .tc := ⟨.hbm, 248, rfl⟩
abbrev main_cst_3 : Ref sig .tc := ⟨.hbm, 249, rfl⟩
abbrev main_call1_v0 : Ref sig .tc := ⟨.hbm, 250, rfl⟩
abbrev main_call1_v1 : Ref sig .tc := ⟨.hbm, 251, rfl⟩
abbrev main_call1_v2 : Ref sig .tc := ⟨.hbm, 252, rfl⟩
abbrev main_call1_v3 : Ref sig .tc := ⟨.hbm, 253, rfl⟩
abbrev main_call1_v4 : Ref sig .tc := ⟨.hbm, 254, rfl⟩
abbrev main_call1_v5 : Ref sig .tc := ⟨.hbm, 255, rfl⟩
abbrev main_call1_v6 : Ref sig .tc := ⟨.hbm, 256, rfl⟩
abbrev main_call1_v7 : Ref sig .tc := ⟨.hbm, 257, rfl⟩
abbrev main_call1_v8 : Ref sig .tc := ⟨.hbm, 258, rfl⟩
abbrev main_call1_v9 : Ref sig .tc := ⟨.hbm, 259, rfl⟩
abbrev main_call1_c : Ref sig .tc := ⟨.hbm, 260, rfl⟩
abbrev main_call1_v10 : Ref sig .tc := ⟨.hbm, 261, rfl⟩
abbrev main_call1_v11 : Ref sig .tc := ⟨.hbm, 262, rfl⟩
abbrev main_call1_c_0 : Ref sig .tc := ⟨.hbm, 263, rfl⟩
abbrev main_call1_v12 : Ref sig .tc := ⟨.hbm, 264, rfl⟩
abbrev main_call1_v13 : Ref sig .tc := ⟨.hbm, 265, rfl⟩
abbrev main_call1_v14 : Ref sig .tc := ⟨.hbm, 266, rfl⟩
abbrev main_call1_c_1 : Ref sig .tc := ⟨.hbm, 267, rfl⟩
abbrev main_call1_v15 : Ref sig .tc := ⟨.hbm, 268, rfl⟩
abbrev main_call1_v16 : Ref sig .tc := ⟨.hbm, 269, rfl⟩
abbrev main_call1_v17 : Ref sig .tc := ⟨.hbm, 270, rfl⟩
abbrev main_call1_v18 : Ref sig .tc := ⟨.hbm, 271, rfl⟩
abbrev main_call1_call0_v0 : Ref sig .tc := ⟨.hbm, 272, rfl⟩
abbrev main_call1_call0_c : Ref sig .tc := ⟨.hbm, 273, rfl⟩
abbrev main_call1_call0_v1 : Ref sig .tc := ⟨.hbm, 274, rfl⟩
abbrev main_call1_call0_v2 : Ref sig .tc := ⟨.hbm, 275, rfl⟩
abbrev main_call1_call0_v3 : Ref sig .tc := ⟨.hbm, 276, rfl⟩
abbrev main_call1_call0_v4 : Ref sig .tc := ⟨.hbm, 277, rfl⟩
abbrev main_call1_call0_v5 : Ref sig .tc := ⟨.hbm, 278, rfl⟩
abbrev main_call1_call0_v6 : Ref sig .tc := ⟨.hbm, 279, rfl⟩
abbrev main_call1_call0_c_0 : Ref sig .tc := ⟨.hbm, 280, rfl⟩
abbrev main_call1_call0_v7 : Ref sig .tc := ⟨.hbm, 281, rfl⟩
abbrev main_call1_call0_v8 : Ref sig .tc := ⟨.hbm, 282, rfl⟩
abbrev main_call1_call0_c_1 : Ref sig .tc := ⟨.hbm, 283, rfl⟩
abbrev main_call1_call0_v9 : Ref sig .tc := ⟨.hbm, 284, rfl⟩
abbrev main_call1_call0_v10 : Ref sig .tc := ⟨.hbm, 285, rfl⟩
abbrev main_call1_call0_v11 : Ref sig .tc := ⟨.hbm, 286, rfl⟩
abbrev main_call1_call0_v12 : Ref sig .tc := ⟨.hbm, 287, rfl⟩
abbrev main_call1_call0_v13 : Ref sig .tc := ⟨.hbm, 288, rfl⟩
abbrev main_call1_call0_c_2 : Ref sig .tc := ⟨.hbm, 289, rfl⟩
abbrev main_call1_call0_v14 : Ref sig .tc := ⟨.hbm, 290, rfl⟩
abbrev main_call1_call0_v15 : Ref sig .tc := ⟨.hbm, 291, rfl⟩
abbrev main_call1_call0_c_3 : Ref sig .tc := ⟨.hbm, 292, rfl⟩
abbrev main_call1_call0_v16 : Ref sig .tc := ⟨.hbm, 293, rfl⟩
abbrev main_call1_call0_v17 : Ref sig .tc := ⟨.hbm, 294, rfl⟩
abbrev main_call1_call0_v18 : Ref sig .tc := ⟨.hbm, 295, rfl⟩
abbrev main_call1_call0_v19 : Ref sig .tc := ⟨.hbm, 296, rfl⟩
abbrev main_call1_call0_v20 : Ref sig .tc := ⟨.hbm, 297, rfl⟩
abbrev main_call1_call0_c_4 : Ref sig .tc := ⟨.hbm, 298, rfl⟩
abbrev main_call1_call0_v21 : Ref sig .tc := ⟨.hbm, 299, rfl⟩
abbrev main_call1_call0_v22 : Ref sig .tc := ⟨.hbm, 300, rfl⟩
abbrev main_call1_call0_c_5 : Ref sig .tc := ⟨.hbm, 301, rfl⟩
abbrev main_call1_call0_v23 : Ref sig .tc := ⟨.hbm, 302, rfl⟩
abbrev main_call1_call0_v24 : Ref sig .tc := ⟨.hbm, 303, rfl⟩
abbrev main_call1_call0_v25 : Ref sig .tc := ⟨.hbm, 304, rfl⟩
abbrev main_call1_call0_v26 : Ref sig .tc := ⟨.hbm, 305, rfl⟩
abbrev main_call1_call0_v27 : Ref sig .tc := ⟨.hbm, 306, rfl⟩
abbrev main_call1_call0_c_6 : Ref sig .tc := ⟨.hbm, 307, rfl⟩
abbrev main_call1_call0_v28 : Ref sig .tc := ⟨.hbm, 308, rfl⟩
abbrev main_call1_call0_v29 : Ref sig .tc := ⟨.hbm, 309, rfl⟩
abbrev main_call1_call0_c_7 : Ref sig .tc := ⟨.hbm, 310, rfl⟩
abbrev main_call1_call0_v30 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_call0_v33 : Ref sig .tc := ⟨.hbm, 314, rfl⟩
abbrev main_call1_call0_v34 : Ref sig .tc := ⟨.hbm, 315, rfl⟩
abbrev main_call1_call0_v35 : Ref sig .tc := ⟨.hbm, 316, rfl⟩
abbrev main_call1_call0_v36 : Ref sig .tc := ⟨.hbm, 317, rfl⟩
abbrev main_call1_call0_v37 : Ref sig .tc := ⟨.hbm, 318, rfl⟩
abbrev main_call1_call0_c_8 : Ref sig .tc := ⟨.hbm, 319, rfl⟩
abbrev main_call1_call0_v38 : Ref sig .tc := ⟨.hbm, 320, rfl⟩
abbrev main_call1_call0_v39 : Ref sig .tc := ⟨.hbm, 321, rfl⟩
abbrev main_call1_call0_v40 : Ref sig .tc := ⟨.hbm, 322, rfl⟩
abbrev main_call1_call0_c_9 : Ref sig .tc := ⟨.hbm, 323, rfl⟩
abbrev main_call1_call0_v41 : Ref sig .tc := ⟨.hbm, 324, rfl⟩
abbrev main_call1_call0_v42 : Ref sig .tc := ⟨.hbm, 325, rfl⟩
abbrev main_call1_call0_c_10 : Ref sig .tc := ⟨.hbm, 326, rfl⟩
abbrev main_call1_call0_v43 : Ref sig .tc := ⟨.hbm, 327, rfl⟩
abbrev main_call1_call0_v44 : Ref sig .tc := ⟨.hbm, 328, rfl⟩
abbrev main_call1_call0_v45 : Ref sig .tc := ⟨.hbm, 329, rfl⟩
abbrev main_call1_call0_v46 : Ref sig .tc := ⟨.hbm, 330, rfl⟩
abbrev main_call1_call0_v47 : Ref sig .tc := ⟨.hbm, 331, rfl⟩
abbrev main_call1_call0_c_11 : Ref sig .tc := ⟨.hbm, 332, rfl⟩
abbrev main_call1_call0_v48 : Ref sig .tc := ⟨.hbm, 333, rfl⟩
abbrev main_call1_call0_v49 : Ref sig .tc := ⟨.hbm, 334, rfl⟩
abbrev main_call1_call0_c_12 : Ref sig .tc := ⟨.hbm, 335, rfl⟩
abbrev main_call1_call0_v50 : Ref sig .tc := ⟨.hbm, 336, rfl⟩
abbrev main_call1_call0_v51 : Ref sig .tc := ⟨.hbm, 337, rfl⟩
abbrev main_call1_call0_v52 : Ref sig .tc := ⟨.hbm, 338, rfl⟩
abbrev main_call1_call0_v53 : Ref sig .tc := ⟨.hbm, 339, rfl⟩
abbrev main_call1_call0_v54 : Ref sig .tc := ⟨.hbm, 340, rfl⟩
abbrev main_call1_call0_c_13 : Ref sig .tc := ⟨.hbm, 341, rfl⟩
abbrev main_call1_call0_v55 : Ref sig .tc := ⟨.hbm, 342, rfl⟩
abbrev main_call1_call0_v56 : Ref sig .tc := ⟨.hbm, 343, rfl⟩
abbrev main_call1_call0_c_14 : Ref sig .tc := ⟨.hbm, 344, rfl⟩
abbrev main_call1_call0_v57 : Ref sig .tc := ⟨.hbm, 345, rfl⟩
abbrev main_call1_call0_v58 : Ref sig .tc := ⟨.hbm, 346, rfl⟩
abbrev main_call1_call0_v59 : Ref sig .tc := ⟨.hbm, 347, rfl⟩
abbrev main_call1_call0_v60 : Ref sig .tc := ⟨.hbm, 348, rfl⟩
abbrev main_call1_call0_v61 : Ref sig .tc := ⟨.hbm, 349, rfl⟩
abbrev main_call1_call0_c_15 : Ref sig .tc := ⟨.hbm, 350, rfl⟩
abbrev main_call1_call0_v62 : Ref sig .tc := ⟨.hbm, 351, rfl⟩
abbrev main_call1_call0_v63 : Ref sig .tc := ⟨.hbm, 352, rfl⟩
abbrev main_call1_call0_c_16 : Ref sig .tc := ⟨.hbm, 353, rfl⟩
abbrev main_call1_call0_v64 : Ref sig .tc := ⟨.hbm, 354, rfl⟩
abbrev main_call1_call0_v65 : Ref sig .tc := ⟨.hbm, 355, rfl⟩
abbrev main_call1_call0_v66 : Ref sig .tc := ⟨.hbm, 356, rfl⟩
abbrev main_call1_call0_v67 : Ref sig .tc := ⟨.hbm, 357, rfl⟩
abbrev main_call1_call0_v68 : Ref sig .tc := ⟨.hbm, 358, rfl⟩
abbrev main_call1_call0_v69 : Ref sig .tc := ⟨.hbm, 359, rfl⟩
abbrev main_call1_call0_v70 : Ref sig .tc := ⟨.hbm, 360, rfl⟩
abbrev main_call1_call0_v71 : Ref sig .tc := ⟨.hbm, 361, rfl⟩
abbrev main_call1_call0_c_17 : Ref sig .tc := ⟨.hbm, 362, rfl⟩
abbrev main_call1_call0_v72 : Ref sig .tc := ⟨.hbm, 363, rfl⟩
abbrev main_call1_call0_v73 : Ref sig .tc := ⟨.hbm, 364, rfl⟩
abbrev main_call1_call0_v74 : Ref sig .tc := ⟨.hbm, 365, rfl⟩
abbrev main_call1_call0_c_18 : Ref sig .tc := ⟨.hbm, 366, rfl⟩
abbrev main_call1_call0_v75 : Ref sig .tc := ⟨.hbm, 367, rfl⟩
abbrev main_call1_call0_v76 : Ref sig .tc := ⟨.hbm, 368, rfl⟩
abbrev main_call1_call0_c_19 : Ref sig .tc := ⟨.hbm, 369, rfl⟩
abbrev main_call1_call0_v77 : Ref sig .tc := ⟨.hbm, 370, rfl⟩
abbrev main_call1_call0_v78 : Ref sig .tc := ⟨.hbm, 371, rfl⟩
abbrev main_call1_call0_v79 : Ref sig .tc := ⟨.hbm, 372, rfl⟩
abbrev main_call1_call0_v80 : Ref sig .tc := ⟨.hbm, 373, rfl⟩
abbrev main_call1_call0_v81 : Ref sig .tc := ⟨.hbm, 374, rfl⟩
abbrev main_call1_call0_c_20 : Ref sig .tc := ⟨.hbm, 375, rfl⟩
abbrev main_call1_call0_v82 : Ref sig .tc := ⟨.hbm, 376, rfl⟩
abbrev main_call1_call0_v83 : Ref sig .tc := ⟨.hbm, 377, rfl⟩
abbrev main_call1_call0_c_21 : Ref sig .tc := ⟨.hbm, 378, rfl⟩
abbrev main_call1_call0_v84 : Ref sig .tc := ⟨.hbm, 379, rfl⟩
abbrev main_call1_call0_v85 : Ref sig .tc := ⟨.hbm, 380, rfl⟩
abbrev main_call1_call0_v86 : Ref sig .tc := ⟨.hbm, 381, rfl⟩
abbrev main_call1_call0_v87 : Ref sig .tc := ⟨.hbm, 382, rfl⟩
abbrev main_call1_call0_v88 : Ref sig .tc := ⟨.hbm, 383, rfl⟩
abbrev main_call1_call0_c_22 : Ref sig .tc := ⟨.hbm, 384, rfl⟩
abbrev main_call1_call0_v89 : Ref sig .tc := ⟨.hbm, 385, rfl⟩
abbrev main_call1_call0_v90 : Ref sig .tc := ⟨.hbm, 386, rfl⟩
abbrev main_call1_call0_c_23 : Ref sig .tc := ⟨.hbm, 387, rfl⟩
abbrev main_call1_call0_v91 : Ref sig .tc := ⟨.hbm, 388, rfl⟩
abbrev main_call1_call0_v92 : Ref sig .tc := ⟨.hbm, 389, rfl⟩
abbrev main_call1_call0_v93 : Ref sig .tc := ⟨.hbm, 390, rfl⟩
abbrev main_call1_call0_v94 : Ref sig .tc := ⟨.hbm, 391, rfl⟩
abbrev main_call1_call0_v95 : Ref sig .tc := ⟨.hbm, 392, rfl⟩
abbrev main_call1_call0_c_24 : Ref sig .tc := ⟨.hbm, 393, rfl⟩
abbrev main_call1_call0_v96 : Ref sig .tc := ⟨.hbm, 394, rfl⟩
abbrev main_call1_call0_v97 : Ref sig .tc := ⟨.hbm, 395, rfl⟩
abbrev main_call1_call0_c_25 : Ref sig .tc := ⟨.hbm, 396, rfl⟩
abbrev main_call1_call0_v98 : Ref sig .tc := ⟨.hbm, 397, rfl⟩
abbrev main_call1_call0_v99 : Ref sig .tc := ⟨.hbm, 398, rfl⟩
abbrev main_call1_call0_v100 : Ref sig .tc := ⟨.hbm, 399, rfl⟩
abbrev main_call1_call0_v101 : Ref sig .tc := ⟨.hbm, 400, rfl⟩
abbrev main_call1_call0_v102 : Ref sig .tc := ⟨.hbm, 401, rfl⟩
abbrev main_call1_call0_v103 : Ref sig .tc := ⟨.hbm, 402, rfl⟩
abbrev main_call1_call0_v104 : Ref sig .tc := ⟨.hbm, 403, rfl⟩
abbrev main_call1_call0_v105 : Ref sig .tc := ⟨.hbm, 404, rfl⟩
abbrev main_call1_call0_c_26 : Ref sig .tc := ⟨.hbm, 405, rfl⟩
abbrev main_call1_call0_v106 : Ref sig .tc := ⟨.hbm, 406, rfl⟩
abbrev main_call1_call0_v107 : Ref sig .tc := ⟨.hbm, 407, rfl⟩
abbrev main_call1_call0_v108 : Ref sig .tc := ⟨.hbm, 408, rfl⟩
abbrev main_call1_call0_c_27 : Ref sig .tc := ⟨.hbm, 409, rfl⟩
abbrev main_call1_call0_v109 : Ref sig .tc := ⟨.hbm, 410, rfl⟩
abbrev main_call1_call0_v110 : Ref sig .tc := ⟨.hbm, 411, rfl⟩
abbrev main_call1_call0_c_28 : Ref sig .tc := ⟨.hbm, 412, rfl⟩
abbrev main_call1_call0_v111 : Ref sig .tc := ⟨.hbm, 413, rfl⟩
abbrev main_call1_call0_v112 : Ref sig .tc := ⟨.hbm, 414, rfl⟩
abbrev main_call1_call0_v113 : Ref sig .tc := ⟨.hbm, 415, rfl⟩
abbrev main_call1_call0_v114 : Ref sig .tc := ⟨.hbm, 416, rfl⟩
abbrev main_call1_call0_v115 : Ref sig .tc := ⟨.hbm, 417, rfl⟩
abbrev main_call1_call0_c_29 : Ref sig .tc := ⟨.hbm, 418, rfl⟩
abbrev main_call1_call0_v116 : Ref sig .tc := ⟨.hbm, 419, rfl⟩
abbrev main_call1_call0_v117 : Ref sig .tc := ⟨.hbm, 420, rfl⟩
abbrev main_call1_call0_c_30 : Ref sig .tc := ⟨.hbm, 421, rfl⟩
abbrev main_call1_call0_v118 : Ref sig .tc := ⟨.hbm, 422, rfl⟩
abbrev main_call1_call0_v119 : Ref sig .tc := ⟨.hbm, 423, rfl⟩
abbrev main_call1_call0_v120 : Ref sig .tc := ⟨.hbm, 424, rfl⟩
abbrev main_call1_call0_v121 : Ref sig .tc := ⟨.hbm, 425, rfl⟩
abbrev main_call1_call0_v122 : Ref sig .tc := ⟨.hbm, 426, rfl⟩
abbrev main_call1_call0_c_31 : Ref sig .tc := ⟨.hbm, 427, rfl⟩
abbrev main_call1_call0_v123 : Ref sig .tc := ⟨.hbm, 428, rfl⟩
abbrev main_call1_call0_v124 : Ref sig .tc := ⟨.hbm, 429, rfl⟩
abbrev main_call1_call0_c_32 : Ref sig .tc := ⟨.hbm, 430, rfl⟩
abbrev main_call1_call0_v125 : Ref sig .tc := ⟨.hbm, 431, rfl⟩
abbrev main_call1_call0_v126 : Ref sig .tc := ⟨.hbm, 432, rfl⟩
abbrev main_call1_call0_v127 : Ref sig .tc := ⟨.hbm, 433, rfl⟩
abbrev main_call1_call0_v128 : Ref sig .tc := ⟨.hbm, 434, rfl⟩
abbrev main_call1_call0_v129 : Ref sig .tc := ⟨.hbm, 435, rfl⟩
abbrev main_call1_call0_c_33 : Ref sig .tc := ⟨.hbm, 436, rfl⟩
abbrev main_call1_call0_v130 : Ref sig .tc := ⟨.hbm, 437, rfl⟩
abbrev main_call1_call0_v131 : Ref sig .tc := ⟨.hbm, 438, rfl⟩
abbrev main_call1_call0_c_34 : Ref sig .tc := ⟨.hbm, 439, rfl⟩
abbrev main_call1_call0_v132 : Ref sig .tc := ⟨.hbm, 440, rfl⟩
abbrev main_call1_call0_v133 : Ref sig .tc := ⟨.hbm, 441, rfl⟩
abbrev main_call1_call0_v134 : Ref sig .tc := ⟨.hbm, 442, rfl⟩
abbrev main_call1_call0_v135 : Ref sig .tc := ⟨.hbm, 443, rfl⟩
abbrev main_call1_call0_v136 : Ref sig .tc := ⟨.hbm, 444, rfl⟩
abbrev main_call1_call0_v137 : Ref sig .tc := ⟨.hbm, 445, rfl⟩
abbrev main_call1_call0_v138 : Ref sig .tc := ⟨.hbm, 446, rfl⟩
abbrev main_call1_call0_v139 : Ref sig .tc := ⟨.hbm, 447, rfl⟩
abbrev main_call1_call0_c_35 : Ref sig .tc := ⟨.hbm, 448, rfl⟩
abbrev main_call1_call0_v140 : Ref sig .tc := ⟨.hbm, 449, rfl⟩
abbrev main_call1_call0_v141 : Ref sig .tc := ⟨.hbm, 450, rfl⟩
abbrev main_call1_call0_v142 : Ref sig .tc := ⟨.hbm, 451, rfl⟩
abbrev main_call1_call0_c_36 : Ref sig .tc := ⟨.hbm, 452, rfl⟩
abbrev main_call1_call0_v143 : Ref sig .tc := ⟨.hbm, 453, rfl⟩
abbrev main_call1_call0_v144 : Ref sig .tc := ⟨.hbm, 454, rfl⟩
abbrev main_call1_call0_c_37 : Ref sig .tc := ⟨.hbm, 455, rfl⟩
abbrev main_call1_call0_v145 : Ref sig .tc := ⟨.hbm, 456, rfl⟩
abbrev main_call1_call0_v146 : Ref sig .tc := ⟨.hbm, 457, rfl⟩
abbrev main_call1_call0_v147 : Ref sig .tc := ⟨.hbm, 458, rfl⟩
abbrev main_call1_call0_v148 : Ref sig .tc := ⟨.hbm, 459, rfl⟩
abbrev main_call1_call0_v149 : Ref sig .tc := ⟨.hbm, 460, rfl⟩
abbrev main_call1_call0_c_38 : Ref sig .tc := ⟨.hbm, 461, rfl⟩
abbrev main_call1_call0_v150 : Ref sig .tc := ⟨.hbm, 462, rfl⟩
abbrev main_call1_call0_v151 : Ref sig .tc := ⟨.hbm, 463, rfl⟩
abbrev main_call1_call0_c_39 : Ref sig .tc := ⟨.hbm, 464, rfl⟩
abbrev main_call1_call0_v152 : Ref sig .tc := ⟨.hbm, 465, rfl⟩
abbrev main_call1_call0_v153 : Ref sig .tc := ⟨.hbm, 466, rfl⟩
abbrev main_call1_call0_v154 : Ref sig .tc := ⟨.hbm, 467, rfl⟩
abbrev main_call1_call0_v155 : Ref sig .tc := ⟨.hbm, 468, rfl⟩
abbrev main_call1_call0_v156 : Ref sig .tc := ⟨.hbm, 469, rfl⟩
abbrev main_call1_call0_c_40 : Ref sig .tc := ⟨.hbm, 470, rfl⟩
abbrev main_call1_call0_v157 : Ref sig .tc := ⟨.hbm, 471, rfl⟩
abbrev main_call1_call0_v158 : Ref sig .tc := ⟨.hbm, 472, rfl⟩
abbrev main_call1_call0_c_41 : Ref sig .tc := ⟨.hbm, 473, rfl⟩
abbrev main_call1_call0_v159 : Ref sig .tc := ⟨.hbm, 474, rfl⟩
abbrev main_call1_call0_v160 : Ref sig .tc := ⟨.hbm, 475, rfl⟩
abbrev main_call1_call0_v161 : Ref sig .tc := ⟨.hbm, 476, rfl⟩
abbrev main_call1_call0_v162 : Ref sig .tc := ⟨.hbm, 477, rfl⟩
abbrev main_call1_call0_v163 : Ref sig .tc := ⟨.hbm, 478, rfl⟩
abbrev main_call1_call0_c_42 : Ref sig .tc := ⟨.hbm, 479, rfl⟩
abbrev main_call1_call0_v164 : Ref sig .tc := ⟨.hbm, 480, rfl⟩
abbrev main_call1_call0_v165 : Ref sig .tc := ⟨.hbm, 481, rfl⟩
abbrev main_call1_call0_c_43 : Ref sig .tc := ⟨.hbm, 482, rfl⟩
abbrev main_call1_call0_v166 : Ref sig .tc := ⟨.hbm, 483, rfl⟩
abbrev main_call1_call0_v167 : Ref sig .tc := ⟨.hbm, 484, rfl⟩
abbrev main_call1_call0_v168 : Ref sig .tc := ⟨.hbm, 485, rfl⟩
abbrev main_call1_call0_v169 : Ref sig .tc := ⟨.hbm, 486, rfl⟩
abbrev main_call1_call0_v170 : Ref sig .tc := ⟨.hbm, 487, rfl⟩
abbrev main_call1_v19_0 : Ref sig .tc := ⟨.hbm, 488, rfl⟩
abbrev main_call1_call0_v172 : Ref sig .tc := ⟨.hbm, 489, rfl⟩
abbrev main_call1_call0_v173 : Ref sig .tc := ⟨.hbm, 490, rfl⟩
abbrev main_call1_call0_c_44 : Ref sig .tc := ⟨.hbm, 491, rfl⟩
abbrev main_call1_call0_v174 : Ref sig .tc := ⟨.hbm, 492, rfl⟩
abbrev main_call1_v19_1 : Ref sig .tc := ⟨.hbm, 493, rfl⟩
abbrev main_call1_v20 : Ref sig .tc := ⟨.hbm, 494, rfl⟩
abbrev main_call1_c_2 : Ref sig .tc := ⟨.hbm, 495, rfl⟩
abbrev main_call1_v21 : Ref sig .tc := ⟨.hbm, 496, rfl⟩
abbrev main_call1_v22 : Ref sig .tc := ⟨.hbm, 497, rfl⟩
abbrev main_call1_c_3 : Ref sig .tc := ⟨.hbm, 498, rfl⟩
abbrev main_call1_v23 : Ref sig .tc := ⟨.hbm, 499, rfl⟩
abbrev main_call1_v24 : Ref sig .tc := ⟨.hbm, 500, rfl⟩
abbrev main_call1_v25 : Ref sig .tc := ⟨.hbm, 501, rfl⟩
abbrev main_call1_cst : Ref sig .tc := ⟨.hbm, 502, rfl⟩
abbrev main_call1_v26 : Ref sig .tc := ⟨.hbm, 503, rfl⟩
abbrev main_call1_v27 : Ref sig .tc := ⟨.hbm, 504, rfl⟩
abbrev main_call1_v28 : Ref sig .tc := ⟨.hbm, 505, rfl⟩
abbrev main_call1_v29 : Ref sig .tc := ⟨.hbm, 506, rfl⟩
abbrev main_call1_v30 : Ref sig .tc := ⟨.hbm, 507, rfl⟩
abbrev main_call1_v31 : Ref sig .tc := ⟨.hbm, 508, rfl⟩
abbrev main_call1_v32 : Ref sig .tc := ⟨.hbm, 509, rfl⟩
abbrev main_call1_v33 : Ref sig .tc := ⟨.hbm, 510, rfl⟩
abbrev main_v8 : Ref sig .tc := ⟨.hbm, 511, rfl⟩
abbrev main_call2_v0 : Ref sig .tc := ⟨.hbm, 512, rfl⟩
abbrev main_call2_v1_0 : Ref sig .tc := ⟨.hbm, 513, rfl⟩
abbrev main_v9 : Ref sig .tc := ⟨.hbm, 514, rfl⟩
abbrev main_v10 : Ref sig .tc := ⟨.hbm, 515, rfl⟩
abbrev main_c_4 : Ref sig .tc := ⟨.hbm, 516, rfl⟩
abbrev main_call3_v0 : Ref sig .tc := ⟨.hbm, 517, rfl⟩
abbrev main_call3_v1 : Ref sig .tc := ⟨.hbm, 518, rfl⟩
abbrev main_call3_v2 : Ref sig .tc := ⟨.hbm, 519, rfl⟩
abbrev main_call3_v3 : Ref sig .tc := ⟨.hbm, 520, rfl⟩
abbrev main_call3_v4 : Ref sig .tc := ⟨.hbm, 521, rfl⟩
abbrev main_call3_v5 : Ref sig .tc := ⟨.hbm, 522, rfl⟩
abbrev main_call3_v6 : Ref sig .tc := ⟨.hbm, 523, rfl⟩
abbrev main_call3_v7 : Ref sig .tc := ⟨.hbm, 524, rfl⟩
abbrev main_call3_v8 : Ref sig .tc := ⟨.hbm, 525, rfl⟩
abbrev main_call3_c : Ref sig .tc := ⟨.hbm, 526, rfl⟩
abbrev main_call3_v9 : Ref sig .tc := ⟨.hbm, 527, rfl⟩
abbrev main_call3_v10 : Ref sig .tc := ⟨.hbm, 528, rfl⟩
abbrev main_call3_v11 : Ref sig .tc := ⟨.hbm, 529, rfl⟩
abbrev main_call3_c_0 : Ref sig .tc := ⟨.hbm, 530, rfl⟩
abbrev main_call3_v12 : Ref sig .tc := ⟨.hbm, 531, rfl⟩
abbrev main_call3_v13 : Ref sig .tc := ⟨.hbm, 532, rfl⟩
abbrev main_v11 : Ref sig .tc := ⟨.hbm, 533, rfl⟩
abbrev main_c_5 : Ref sig .tc := ⟨.hbm, 534, rfl⟩
abbrev main_call4_v0 : Ref sig .tc := ⟨.hbm, 535, rfl⟩
abbrev main_call4_c : Ref sig .tc := ⟨.hbm, 536, rfl⟩
abbrev main_call4_v1 : Ref sig .tc := ⟨.hbm, 537, rfl⟩
abbrev main_call4_c_0 : Ref sig .tc := ⟨.hbm, 538, rfl⟩
abbrev main_call4_v2 : Ref sig .tc := ⟨.hbm, 539, rfl⟩
abbrev main_call4_v3 : Ref sig .tc := ⟨.hbm, 540, rfl⟩
abbrev main_call4_v4 : Ref sig .tc := ⟨.hbm, 541, rfl⟩
abbrev main_call4_c_1 : Ref sig .tc := ⟨.hbm, 542, rfl⟩
abbrev main_call4_v5 : Ref sig .tc := ⟨.hbm, 543, rfl⟩
abbrev main_call4_v6 : Ref sig .tc := ⟨.hbm, 544, rfl⟩
abbrev main_call4_c_2 : Ref sig .tc := ⟨.hbm, 545, rfl⟩
abbrev main_call4_v7 : Ref sig .tc := ⟨.hbm, 546, rfl⟩
abbrev main_call4_v8 : Ref sig .tc := ⟨.hbm, 547, rfl⟩
abbrev main_call4_c_3 : Ref sig .tc := ⟨.hbm, 548, rfl⟩
abbrev main_call4_v9 : Ref sig .tc := ⟨.hbm, 549, rfl⟩
abbrev main_call4_v10 : Ref sig .tc := ⟨.hbm, 550, rfl⟩
abbrev main_call4_v11 : Ref sig .tc := ⟨.hbm, 551, rfl⟩
abbrev main_call4_v12 : Ref sig .tc := ⟨.hbm, 552, rfl⟩
abbrev main_call4_v13 : Ref sig .tc := ⟨.hbm, 553, rfl⟩
abbrev main_call4_v14 : Ref sig .tc := ⟨.hbm, 554, rfl⟩
abbrev main_v12 : Ref sig .tc := ⟨.hbm, 555, rfl⟩
abbrev main_v13 : Ref sig .tc := ⟨.hbm, 556, rfl⟩
abbrev main_v14 : Ref sig .tc := ⟨.hbm, 557, rfl⟩
abbrev main_v15 : Ref sig .tc := ⟨.hbm, 558, rfl⟩
abbrev main_v16 : Ref sig .tc := ⟨.hbm, 559, rfl⟩
abbrev main_v17 : Ref sig .tc := ⟨.hbm, 560, rfl⟩
abbrev main_v18 : Ref sig .tc := ⟨.hbm, 561, rfl⟩
abbrev main_v19 : Ref sig .tc := ⟨.hbm, 562, rfl⟩
abbrev main_c_6 : Ref sig .tc := ⟨.hbm, 563, rfl⟩
abbrev main_c_7 : Ref sig .tc := ⟨.hbm, 564, rfl⟩
abbrev main_v21 : Ref sig .tc := ⟨.hbm, 565, rfl⟩
abbrev main_call5_call0_c : Ref sig .tc := ⟨.hbm, 566, rfl⟩
abbrev main_call5_call0_v0 : Ref sig .tc := ⟨.hbm, 567, rfl⟩
abbrev main_v22 : Ref sig .tc := ⟨.hbm, 568, rfl⟩
abbrev main_v23 : Ref sig .tc := ⟨.hbm, 569, rfl⟩
abbrev main_v24 : Ref sig .tc := ⟨.hbm, 570, rfl⟩
abbrev main_call6_v0 : Ref sig .tc := ⟨.hbm, 571, rfl⟩
abbrev main_call6_v1_0 : Ref sig .tc := ⟨.hbm, 572, rfl⟩
abbrev main_v25 : Ref sig .tc := ⟨.hbm, 573, rfl⟩
abbrev main_call7_c : Ref sig .tc := ⟨.hbm, 574, rfl⟩
abbrev main_call7_v0 : Ref sig .tc := ⟨.hbm, 575, rfl⟩
abbrev main_call7_v1 : Ref sig .tc := ⟨.hbm, 576, rfl⟩
abbrev main_call7_c_0 : Ref sig .tc := ⟨.hbm, 577, rfl⟩
abbrev main_call7_v2 : Ref sig .tc := ⟨.hbm, 578, rfl⟩
abbrev main_call7_v3 : Ref sig .tc := ⟨.hbm, 579, rfl⟩
abbrev main_call7_v4 : Ref sig .tc := ⟨.hbm, 580, rfl⟩
abbrev main_call7_v5 : Ref sig .tc := ⟨.hbm, 581, rfl⟩
abbrev main_call7_c_1 : Ref sig .tc := ⟨.hbm, 582, rfl⟩
abbrev main_call7_c_2 : Ref sig .tc := ⟨.hbm, 583, rfl⟩
abbrev main_call7_v6 : Ref sig .tc := ⟨.hbm, 584, rfl⟩
abbrev main_call7_v7 : Ref sig .tc := ⟨.hbm, 585, rfl⟩
abbrev main_call7_v8 : Ref sig .tc := ⟨.hbm, 586, rfl⟩
abbrev main_call7_v9 : Ref sig .tc := ⟨.hbm, 587, rfl⟩
abbrev main_call7_v10 : Ref sig .tc := ⟨.hbm, 588, rfl⟩
abbrev main_call7_v11 : Ref sig .tc := ⟨.hbm, 589, rfl⟩
abbrev main_call7_c_3 : Ref sig .tc := ⟨.hbm, 590, rfl⟩
abbrev main_call7_v12 : Ref sig .tc := ⟨.hbm, 591, rfl⟩
abbrev main_call7_v13 : Ref sig .tc := ⟨.hbm, 592, rfl⟩
abbrev main_call7_c_4 : Ref sig .tc := ⟨.hbm, 593, rfl⟩
abbrev main_call7_v14 : Ref sig .tc := ⟨.hbm, 594, rfl⟩
abbrev main_v26 : Ref sig .tc := ⟨.hbm, 595, rfl⟩
abbrev main_call8_c : Ref sig .tc := ⟨.hbm, 596, rfl⟩
abbrev main_call8_v0 : Ref sig .tc := ⟨.hbm, 597, rfl⟩
abbrev main_call8_v1 : Ref sig .tc := ⟨.hbm, 598, rfl⟩
abbrev main_call8_c_0 : Ref sig .tc := ⟨.hbm, 599, rfl⟩
abbrev main_call8_v2 : Ref sig .tc := ⟨.hbm, 600, rfl⟩
abbrev main_call8_v3 : Ref sig .tc := ⟨.hbm, 601, rfl⟩
abbrev main_call8_v4 : Ref sig .tc := ⟨.hbm, 602, rfl⟩
abbrev main_call8_v5 : Ref sig .tc := ⟨.hbm, 603, rfl⟩
abbrev main_call8_c_1 : Ref sig .tc := ⟨.hbm, 604, rfl⟩
abbrev main_call8_c_2 : Ref sig .tc := ⟨.hbm, 605, rfl⟩
abbrev main_call8_v6 : Ref sig .tc := ⟨.hbm, 606, rfl⟩
abbrev main_call8_v7 : Ref sig .tc := ⟨.hbm, 607, rfl⟩
abbrev main_call8_v8 : Ref sig .tc := ⟨.hbm, 608, rfl⟩
abbrev main_call8_v9 : Ref sig .tc := ⟨.hbm, 609, rfl⟩
abbrev main_call8_v10 : Ref sig .tc := ⟨.hbm, 610, rfl⟩
abbrev main_call8_v11 : Ref sig .tc := ⟨.hbm, 611, rfl⟩
abbrev main_call8_c_3 : Ref sig .tc := ⟨.hbm, 612, rfl⟩
abbrev main_call8_v12 : Ref sig .tc := ⟨.hbm, 613, rfl⟩
abbrev main_call8_v13 : Ref sig .tc := ⟨.hbm, 614, rfl⟩
abbrev main_call8_c_4 : Ref sig .tc := ⟨.hbm, 615, rfl⟩
abbrev main_call8_v14 : Ref sig .tc := ⟨.hbm, 616, rfl⟩
abbrev main_v27 : Ref sig .tc := ⟨.hbm, 617, rfl⟩
abbrev main_v28 : Ref sig .tc := ⟨.hbm, 618, rfl⟩
abbrev main_v29 : Ref sig .tc := ⟨.hbm, 619, rfl⟩
abbrev main_call9_c : Ref sig .tc := ⟨.hbm, 620, rfl⟩
abbrev main_call9_v0 : Ref sig .tc := ⟨.hbm, 621, rfl⟩
abbrev main_call9_v1 : Ref sig .tc := ⟨.hbm, 622, rfl⟩
abbrev main_call9_c_0 : Ref sig .tc := ⟨.hbm, 623, rfl⟩
abbrev main_call9_v2 : Ref sig .tc := ⟨.hbm, 624, rfl⟩
abbrev main_call9_v3 : Ref sig .tc := ⟨.hbm, 625, rfl⟩
abbrev main_call9_v4 : Ref sig .tc := ⟨.hbm, 626, rfl⟩
abbrev main_call9_v5 : Ref sig .tc := ⟨.hbm, 627, rfl⟩
abbrev main_call9_c_1 : Ref sig .tc := ⟨.hbm, 628, rfl⟩
abbrev main_call9_c_2 : Ref sig .tc := ⟨.hbm, 629, rfl⟩
abbrev main_call9_v6 : Ref sig .tc := ⟨.hbm, 630, rfl⟩
abbrev main_call9_v7 : Ref sig .tc := ⟨.hbm, 631, rfl⟩
abbrev main_call9_v8 : Ref sig .tc := ⟨.hbm, 632, rfl⟩
abbrev main_call9_v9 : Ref sig .tc := ⟨.hbm, 633, rfl⟩
abbrev main_call9_v10 : Ref sig .tc := ⟨.hbm, 634, rfl⟩
abbrev main_call9_v11 : Ref sig .tc := ⟨.hbm, 635, rfl⟩
abbrev main_call9_c_3 : Ref sig .tc := ⟨.hbm, 636, rfl⟩
abbrev main_call9_v12 : Ref sig .tc := ⟨.hbm, 637, rfl⟩
abbrev main_call9_v13 : Ref sig .tc := ⟨.hbm, 638, rfl⟩
abbrev main_call9_c_4 : Ref sig .tc := ⟨.hbm, 639, rfl⟩
abbrev main_call9_v14 : Ref sig .tc := ⟨.hbm, 640, rfl⟩
abbrev main_v30 : Ref sig .tc := ⟨.hbm, 641, rfl⟩
abbrev main_v31 : Ref sig .tc := ⟨.hbm, 642, rfl⟩
abbrev main_v32 : Ref sig .tc := ⟨.hbm, 643, rfl⟩
abbrev main_v33 : Ref sig .tc := ⟨.hbm, 644, rfl⟩
abbrev main_v34 : Ref sig .tc := ⟨.hbm, 645, rfl⟩
abbrev main_c_8 : Ref sig .tc := ⟨.hbm, 646, rfl⟩
abbrev main_v35 : Ref sig .tc := ⟨.hbm, 647, rfl⟩
abbrev main_c_9 : Ref sig .tc := ⟨.hbm, 648, rfl⟩
abbrev main_v36 : Ref sig .tc := ⟨.hbm, 649, rfl⟩
abbrev main_v37 : Ref sig .tc := ⟨.hbm, 650, rfl⟩
abbrev main_c_10 : Ref sig .tc := ⟨.hbm, 651, rfl⟩
abbrev main_v38 : Ref sig .tc := ⟨.hbm, 652, rfl⟩
abbrev main_v39 : Ref sig .tc := ⟨.hbm, 653, rfl⟩
abbrev main_v40 : Ref sig .tc := ⟨.hbm, 654, rfl⟩
abbrev main_c_11 : Ref sig .tc := ⟨.hbm, 655, rfl⟩
abbrev main_v41 : Ref sig .tc := ⟨.hbm, 656, rfl⟩
abbrev main_v42 : Ref sig .tc := ⟨.hbm, 657, rfl⟩
abbrev main_c_12 : Ref sig .tc := ⟨.hbm, 658, rfl⟩
abbrev main_v43 : Ref sig .tc := ⟨.hbm, 659, rfl⟩
abbrev main_v44 : Ref sig .tc := ⟨.hbm, 660, rfl⟩
abbrev main_v45 : Ref sig .tc := ⟨.hbm, 661, rfl⟩
abbrev main_c_13 : Ref sig .tc := ⟨.hbm, 662, rfl⟩
abbrev main_v46 : Ref sig .tc := ⟨.hbm, 663, rfl⟩
abbrev main_v47 : Ref sig .tc := ⟨.hbm, 664, rfl⟩
abbrev main_c_14 : Ref sig .tc := ⟨.hbm, 665, rfl⟩
abbrev main_v48 : Ref sig .tc := ⟨.hbm, 666, rfl⟩
abbrev main_v49 : Ref sig .tc := ⟨.hbm, 667, rfl⟩
abbrev main_v50 : Ref sig .tc := ⟨.hbm, 668, rfl⟩
abbrev main_v51 : Ref sig .tc := ⟨.hbm, 669, rfl⟩
abbrev main_v52 : Ref sig .tc := ⟨.hbm, 670, rfl⟩
abbrev main_v53 : Ref sig .tc := ⟨.hbm, 671, rfl⟩
abbrev main_v54 : Ref sig .tc := ⟨.hbm, 672, rfl⟩
abbrev main_v55 : Ref sig .tc := ⟨.hbm, 673, rfl⟩
abbrev main_c_15 : Ref sig .tc := ⟨.hbm, 674, rfl⟩
abbrev main_v57 : Ref sig .tc := ⟨.hbm, 675, rfl⟩
abbrev main_c_16 : Ref sig .tc := ⟨.hbm, 676, rfl⟩
abbrev main_v58 : Ref sig .tc := ⟨.hbm, 677, rfl⟩
abbrev main_v59 : Ref sig .tc := ⟨.hbm, 678, rfl⟩
abbrev main_c_17 : Ref sig .tc := ⟨.hbm, 679, rfl⟩
abbrev main_v60 : Ref sig .tc := ⟨.hbm, 680, rfl⟩
abbrev main_v61 : Ref sig .tc := ⟨.hbm, 681, rfl⟩
abbrev main_v62 : Ref sig .tc := ⟨.hbm, 682, rfl⟩
abbrev main_c_18 : Ref sig .tc := ⟨.hbm, 683, rfl⟩
abbrev main_v63 : Ref sig .tc := ⟨.hbm, 684, rfl⟩
abbrev main_v64 : Ref sig .tc := ⟨.hbm, 685, rfl⟩
abbrev main_c_19 : Ref sig .tc := ⟨.hbm, 686, rfl⟩
abbrev main_v65 : Ref sig .tc := ⟨.hbm, 687, rfl⟩
abbrev main_v66 : Ref sig .tc := ⟨.hbm, 688, rfl⟩
abbrev main_v67 : Ref sig .tc := ⟨.hbm, 689, rfl⟩
abbrev main_c_20 : Ref sig .tc := ⟨.hbm, 690, rfl⟩
abbrev main_v68 : Ref sig .tc := ⟨.hbm, 691, rfl⟩
abbrev main_v69 : Ref sig .tc := ⟨.hbm, 692, rfl⟩
abbrev main_c_21 : Ref sig .tc := ⟨.hbm, 693, rfl⟩
abbrev main_v70 : Ref sig .tc := ⟨.hbm, 694, rfl⟩
abbrev main_v71 : Ref sig .tc := ⟨.hbm, 695, rfl⟩
abbrev main_v72 : Ref sig .tc := ⟨.hbm, 696, rfl⟩
abbrev main_v73 : Ref sig .tc := ⟨.hbm, 697, rfl⟩
abbrev main_v74 : Ref sig .tc := ⟨.hbm, 698, rfl⟩
abbrev main_v75 : Ref sig .tc := ⟨.hbm, 699, rfl⟩
abbrev main_v76 : Ref sig .tc := ⟨.hbm, 700, rfl⟩
abbrev main_v77 : Ref sig .tc := ⟨.hbm, 701, rfl⟩
abbrev main_v79 : Ref sig .tc := ⟨.hbm, 702, rfl⟩
abbrev main_v80 : Ref sig .tc := ⟨.hbm, 703, rfl⟩
abbrev main_v81 : Ref sig .tc := ⟨.hbm, 704, rfl⟩
abbrev main_v82 : Ref sig .tc := ⟨.hbm, 705, rfl⟩
abbrev main_v20 : Ref sig .tc := ⟨.smem, 0, rfl⟩
abbrev main_v56 : Ref sig .tc := ⟨.smem, 1, rfl⟩
abbrev main_v78 : Ref sig .tc := ⟨.smem, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![4, 14], ![false, false]⟩

abbrev pre0 : Pipeline.Prefetch sig := ⟨3, ![main_v20.idx, main_v56.idx, main_v78.idx], fun | 0 => main_v20.names | 1 => main_v56.names | 2 => main_v78.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
@[reducible] def k0_t1_loop (v2 : BitVec 32) : Scf.Loop 32 :=
  let c0_i32_0 : BitVec 32 := 0#32
  let v3 : BitVec 32 := Scalar.subi v2 c0_i32_0
  let c1_i32 : BitVec 32 := 1#32
  let v5 : BitVec 32 := Scalar.divsi v3 c1_i32
  let v6 : BitVec 32 := Scalar.muli v5 c1_i32
  let v7 : BitVec 32 := Scalar.addi c0_i32_0 v6
  let c1_i32_1 : BitVec 32 := 1#32
  ⟨c0_i32_0, v7, c1_i32_1⟩

def k0_off2 (i : grid0.Coords) (v2 : BitVec 32) (k0_t1 : Fin (k0_t1_loop v2).trips) : Fin 3 → Nat :=
  let arg0 : BitVec 32 := BitVec.ofNat 32 (i 0).val
  let v13 : Index := Scalar.indexCast arg0
  let arg1 : BitVec 32 := BitVec.ofNat 32 (i 1).val
  let v14 : Index := Scalar.indexCast arg1
  let c0_i32_0 : BitVec 32 := 0#32
  let c1_i32_1 : BitVec 32 := 1#32
  let arg8 : BitVec 32 := Scf.iv c0_i32_0 c1_i32_1 k0_t1
  let v15 : Index := Scalar.indexCast arg8
  ![v13.toNat, v14.toNat, v15.toNat]
def k0_off3 (i : grid0.Coords) (v20 : BitVec 32) : Fin 5 → Nat :=
  let arg0 : BitVec 32 := BitVec.ofNat 32 (i 0).val
  let c0_i32_10 : BitVec 32 := 0#32
  let c0_i32_11 : BitVec 32 := 0#32
  let c0_i32_12 : BitVec 32 := 0#32
  ![arg0.toNat, 0, 0, v20.toNat, 0]

def k0_chk2 (i : grid0.Coords) (v20 : BitVec 32) : Prop :=
  (∀ a, (k0_off3 i v20) a + S1x16x16x1x384.size a ≤ S4x16x16x98x384.size a)
theorem k0_off3_inb : ∀ (i : grid0.Coords) (v20 : BitVec 32) (k0_hw2 : k0_chk2 i v20), ∀ a, (k0_off3 i v20) a + S1x16x16x1x384.size a ≤ S4x16x16x98x384.size a := fun i v20 k0_hw2 => k0_hw2

def k0_off4 (v16 : BitVec 32) : Fin 5 → Nat :=
  let c0_i32_8 : BitVec 32 := 0#32
  let c0_i32_9 : BitVec 32 := 0#32
  let c0_i32_13 : BitVec 32 := 0#32
  let c16_i32 : BitVec 32 := 16#32
  let v21 : BitVec 32 := Scalar.muli v16 c16_i32
  let c0_i32_14 : BitVec 32 := 0#32
  ![0, 0, 0, v21.toNat, 0]

def k0_chk3 (v16 : BitVec 32) : Prop :=
  (∀ a, (k0_off4 v16) a + S1x1x16x16x384.size a ≤ S1x1x16x224x384.size a)
theorem k0_off4_inb : ∀ (v16 : BitVec 32) (k0_hw3 : k0_chk3 v16), ∀ a, (k0_off4 v16) a + S1x1x16x16x384.size a ≤ S1x1x16x224x384.size a := fun v16 k0_hw3 => k0_hw3

@[reducible] def k0_t2_loop (v2 : BitVec 32) : Scf.Loop 32 :=
  let c0_i32_0 : BitVec 32 := 0#32
  let v3 : BitVec 32 := Scalar.subi v2 c0_i32_0
  let c1_i32 : BitVec 32 := 1#32
  let v5 : BitVec 32 := Scalar.divsi v3 c1_i32
  let v6 : BitVec 32 := Scalar.muli v5 c1_i32
  let v7 : BitVec 32 := Scalar.addi c0_i32_0 v6
  let v4 : BitVec 32 := Scalar.addi c0_i32_0 v3
  let c1_i32_2 : BitVec 32 := 1#32
  ⟨v7, v4, c1_i32_2⟩
def k0_off5 (i : grid0.Coords) (v2 : BitVec 32) (k0_t2 : Fin (k0_t2_loop v2).trips) : Fin 3 → Nat :=
  let arg0 : BitVec 32 := BitVec.ofNat 32 (i 0).val
  let v13 : Index := Scalar.indexCast arg0
  let arg1 : BitVec 32 := BitVec.ofNat 32 (i 1).val
  let v14 : Index := Scalar.indexCast arg1
  let c0_i32_0 : BitVec 32 := 0#32
  let v3 : BitVec 32 := Scalar.subi v2 c0_i32_0
  let c1_i32 : BitVec 32 := 1#32
  let v5 : BitVec 32 := Scalar.divsi v3 c1_i32
  let v6 : BitVec 32 := Scalar.muli v5 c1_i32
  let v7 : BitVec 32 := Scalar.addi c0_i32_0 v6
  let c1_i32_2 : BitVec 32 := 1#32
  let arg8 : BitVec 32 := Scf.iv v7 c1_i32_2 k0_t2
  let v15 : Index := Scalar.indexCast arg8
  ![v13.toNat, v14.toNat, v15.toNat]
def k0_off6 (i : grid0.Coords) (v20 : BitVec 32) : Fin 5 → Nat :=
  let arg0 : BitVec 32 := BitVec.ofNat 32 (i 0).val
  let c0_i32_10 : BitVec 32 := 0#32
  let c0_i32_11 : BitVec 32 := 0#32
  let c0_i32_12 : BitVec 32 := 0#32
  ![arg0.toNat, 0, 0, v20.toNat, 0]

def k0_chk4 (i : grid0.Coords) (v20 : BitVec 32) : Prop :=
  (∀ a, (k0_off6 i v20) a + S1x16x16x1x384.size a ≤ S4x16x16x98x384.size a)
theorem k0_off6_inb : ∀ (i : grid0.Coords) (v20 : BitVec 32) (k0_hw4 : k0_chk4 i v20), ∀ a, (k0_off6 i v20) a + S1x16x16x1x384.size a ≤ S4x16x16x98x384.size a := fun i v20 k0_hw4 => k0_hw4

def k0_off7 (v16 : BitVec 32) : Fin 5 → Nat :=
  let c0_i32_8 : BitVec 32 := 0#32
  let c0_i32_9 : BitVec 32 := 0#32
  let c0_i32_13 : BitVec 32 := 0#32
  let c16_i32 : BitVec 32 := 16#32
  let v21 : BitVec 32 := Scalar.muli v16 c16_i32
  let c0_i32_14 : BitVec 32 := 0#32
  ![0, 0, 0, v21.toNat, 0]

def k0_chk5 (v16 : BitVec 32) : Prop :=
  (∀ a, (k0_off7 v16) a + S1x1x16x16x384.size a ≤ S1x1x16x224x384.size a)
theorem k0_off7_inb : ∀ (v16 : BitVec 32) (k0_hw5 : k0_chk5 v16), ∀ a, (k0_off7 v16) a + S1x1x16x16x384.size a ≤ S1x1x16x224x384.size a := fun v16 k0_hw5 => k0_hw5

@[reducible] def k0_t3_loop (v2 : BitVec 32) : Scf.Loop 32 :=
  let c0_i32_4 : BitVec 32 := 0#32
  let v8 : BitVec 32 := Scalar.subi v2 c0_i32_4
  let c1_i32_5 : BitVec 32 := 1#32
  let v10 : BitVec 32 := Scalar.divsi v8 c1_i32_5
  let v11 : BitVec 32 := Scalar.muli v10 c1_i32_5
  let v12 : BitVec 32 := Scalar.addi c0_i32_4 v11
  let c1_i32_6 : BitVec 32 := 1#32
  ⟨c0_i32_4, v12, c1_i32_6⟩
def k0_off8 (i : grid0.Coords) : Fin 5 → Nat :=
  let arg0 : BitVec 32 := BitVec.ofNat 32 (i 0).val
  let c0_i32_11 : BitVec 32 := 0#32
  let c0_i32_12 : BitVec 32 := 0#32
  let c0_i32_10 : BitVec 32 := 0#32
  let c0_i32_13 : BitVec 32 := 0#32
  ![arg0.toNat, 0, 0, 0, 0]
@[reducible] def k0_t4_loop (v2 : BitVec 32) : Scf.Loop 32 :=
  let c0_i32_4 : BitVec 32 := 0#32
  let v8 : BitVec 32 := Scalar.subi v2 c0_i32_4
  let c1_i32_5 : BitVec 32 := 1#32
  let v10 : BitVec 32 := Scalar.divsi v8 c1_i32_5
  let v11 : BitVec 32 := Scalar.muli v10 c1_i32_5
  let v12 : BitVec 32 := Scalar.addi c0_i32_4 v11
  let v9 : BitVec 32 := Scalar.addi c0_i32_4 v8
  let c1_i32_7 : BitVec 32 := 1#32
  ⟨v12, v9, c1_i32_7⟩

def k0_chk1 (i : grid0.Coords) (v2 : BitVec 32) : Prop :=
  ((k0_t1_loop v2).OK) ∧
  (∀ k0_t1 : Fin (k0_t1_loop v2).trips, ∀ a, (k0_off2 i v2 k0_t1) a + S1x1x1.size a ≤ S4x14x14.size a) ∧
  ((k0_t2_loop v2).OK) ∧
  (∀ k0_t2 : Fin (k0_t2_loop v2).trips, ∀ a, (k0_off5 i v2 k0_t2) a + S1x1x1.size a ≤ S4x14x14.size a) ∧
  ((k0_t3_loop v2).OK) ∧
  ((k0_t4_loop v2).OK)
theorem k0_t1_ok : ∀ (i : grid0.Coords) (v2 : BitVec 32) (k0_hw1 : k0_chk1 i v2), (k0_t1_loop v2).OK := fun i v2 k0_hw1 => k0_hw1.1
theorem k0_off2_inb : ∀ (i : grid0.Coords) (v2 : BitVec 32) (k0_hw1 : k0_chk1 i v2) (k0_t1 : Fin (k0_t1_loop v2).trips), ∀ a, (k0_off2 i v2 k0_t1) a + S1x1x1.size a ≤ S4x14x14.size a := fun i v2 k0_hw1 k0_t1 => k0_hw1.2.1 k0_t1
theorem k0_t2_ok : ∀ (i : grid0.Coords) (v2 : BitVec 32) (k0_hw1 : k0_chk1 i v2), (k0_t2_loop v2).OK := fun i v2 k0_hw1 => k0_hw1.2.2.1
theorem k0_off5_inb : ∀ (i : grid0.Coords) (v2 : BitVec 32) (k0_hw1 : k0_chk1 i v2) (k0_t2 : Fin (k0_t2_loop v2).trips), ∀ a, (k0_off5 i v2 k0_t2) a + S1x1x1.size a ≤ S4x14x14.size a := fun i v2 k0_hw1 k0_t2 => k0_hw1.2.2.2.1 k0_t2
theorem k0_t3_ok : ∀ (i : grid0.Coords) (v2 : BitVec 32) (k0_hw1 : k0_chk1 i v2), (k0_t3_loop v2).OK := fun i v2 k0_hw1 => k0_hw1.2.2.2.2.1
theorem k0_t4_ok : ∀ (i : grid0.Coords) (v2 : BitVec 32) (k0_hw1 : k0_chk1 i v2), (k0_t4_loop v2).OK := fun i v2 k0_hw1 => k0_hw1.2.2.2.2.2

def k0_off9 (i : grid0.Coords) : Fin 5 → Nat :=
  let arg0 : BitVec 32 := BitVec.ofNat 32 (i 0).val
  let c0_i32_11 : BitVec 32 := 0#32
  let c0_i32_12 : BitVec 32 := 0#32
  let c0_i32_10 : BitVec 32 := 0#32
  let c0_i32_13 : BitVec 32 := 0#32
  ![arg0.toNat, 0, 0, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x16x224x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== ReferenceIdeal.lean ====
abbrev S4x384x224x224 : Shape := ⟨4, ![4, 384, 224, 224]⟩
abbrev S4x384x14x16x14x16 : Shape := ⟨6, ![4, 384, 14, 16, 14, 16]⟩
abbrev S4x384x16x16x14x14 : Shape := ⟨6, ![4, 384, 16, 16, 14, 14]⟩
abbrev S4x384x256x196 : Shape := ⟨4, ![4, 384, 256, 196]⟩
abbrev S_ : Shape := ⟨0, ![]⟩
abbrev S1 : Shape := ⟨1, ![1]⟩
abbrev S2 : Shape := ⟨1, ![2]⟩
abbrev S1x1 : Shape := ⟨2, ![1, 1]⟩
abbrev S4x196 : Shape := ⟨2, ![4, 196]⟩
abbrev S4x98 : Shape := ⟨2, ![4, 98]⟩
abbrev S4x1x1x98 : Shape := ⟨4, ![4, 1, 1, 98]⟩
abbrev S4x98x1 : Shape := ⟨3, ![4, 98, 1]⟩
abbrev S1x1x1 : Shape := ⟨3, ![1, 1, 1]⟩
abbrev S4x384x256x98 : Shape := ⟨4, ![4, 384, 256, 98]⟩
abbrev S4x384x25088 : Shape := ⟨3, ![4, 384, 25088]⟩
abbrev S4x25088x384 : Shape := ⟨3, ![4, 25088, 384]⟩

abbrev nBuf : Space → Nat
  | .hbm => 545
  | .vmem => 0
  | .smem => 0
  | _ => 0

abbrev hbmTy0_0 (i : Nat) : BufTy := match i % 128 with
  | 0 => ⟨S4x384x224x224, .f32⟩
  | 1 => ⟨S4x384x14x16x14x16, .f32⟩
  | 2 => ⟨S4x384x16x16x14x14, .f32⟩
  | 3 => ⟨S4x384x256x196, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S1, .i32⟩
  | 21 => ⟨S2, .i32⟩
  | 22 => ⟨S1, .i32⟩
  | 23 => ⟨S_, .i32⟩
  | 24 => ⟨S1, .i32⟩
  | 25 => ⟨S_, .i32⟩
  | 26 => ⟨S1, .i32⟩
  | 27 => ⟨S1, .i32⟩
  | 28 => ⟨S_, .i32⟩
  | 29 => ⟨S_, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S4x384x224x224, .f32⟩

abbrev hbmTy0_1 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S2, .i32⟩
  | 123 => ⟨S_, .f32⟩
  | 124 => ⟨S_, .f32⟩
  | 125 => ⟨S_, .f32⟩
  | 126 => ⟨S_, .f32⟩
  | 127 => ⟨S1x1, .f32⟩
  | _ => ⟨S4x384x224x224, .f32⟩

abbrev hbmTy0_2 (i : Nat) : BufTy := match i % 128 with
  | 0 => ⟨S1x1, .f32⟩
  | 1 => ⟨S1, .i32⟩
  | 2 => ⟨S_, .i32⟩
  | 3 => ⟨S1, .i32⟩
  | 4 => ⟨S_, .i32⟩
  | 5 => ⟨S4x196, .i64⟩
  | 6 => ⟨S4x196, .i64⟩
  | 7 => ⟨S_, .i64⟩
  | 8 => ⟨S4x196, .i64⟩
  | 9 => ⟨S4x196, .i64⟩
  | 10 => ⟨S_, .i64⟩
  | 11 => ⟨S4x196, .i64⟩
  | 12 => ⟨S4x196, .i64⟩
  | 13 => ⟨S4x196, .i64⟩
  | 14 => ⟨S_, .i64⟩
  | 15 => ⟨S4x196, .i64⟩
  | 16 => ⟨S4x196, .i64⟩
  | 17 => ⟨S4x196, .i32⟩
  | 18 => ⟨S4x196, .i32⟩
  | 19 => ⟨S_, .i32⟩
  | 20 => ⟨S_, .i32⟩
  | 21 => ⟨S_, .i32⟩
  | 22 => ⟨S4x196, .i32⟩
  | 23 => ⟨S4x196, .i32⟩
  | 24 => ⟨S4x196, .i32⟩
  | 25 => ⟨S4x196, .i32⟩
  | 26 => ⟨S4x196, .i32⟩
  | 27 => ⟨S_, .i32⟩
  | 28 => ⟨S4x196, .i32⟩
  | 29 => ⟨S4x196, .i32⟩
  | 30 => ⟨S_, .i32⟩
  | 31 => ⟨S4x196, .i32⟩
  | 32 => ⟨S4x196, .i32⟩
  | 33 => ⟨S4x196, .i32⟩
  | 34 => ⟨S4x196, .i32⟩
  | 35 => ⟨S4x196, .i32⟩
  | 36 => ⟨S_, .i32⟩
  | 37 => ⟨S4x196, .i32⟩
  | 38 => ⟨S4x196, .i32⟩
  | 39 => ⟨S_, .i32⟩
  | 40 => ⟨S4x196, .i32⟩
  | 41 => ⟨S4x196, .i32⟩
  | 42 => ⟨S4x196, .i32⟩
  | 43 => ⟨S4x196, .i32⟩
  | 44 => ⟨S4x196, .i32⟩
  | 45 => ⟨S_, .i32⟩
  | 46 => ⟨S4x196, .i32⟩
  | 47 => ⟨S4x196, .i32⟩
  | 48 => ⟨S_, .i32⟩
  | 49 => ⟨S4x196, .i32⟩
  | 50 => ⟨S4x196, .i32⟩
  | 51 => ⟨S4x196, .i32⟩
  | 52 => ⟨S4x196, .i32⟩
  | 53 => ⟨S4x196, .i32⟩
  | 54 => ⟨S_, .i32⟩
  | 55 => ⟨S4x196, .i32⟩
  | 56 => ⟨S4x196, .i32⟩
  | 57 => ⟨S_, .i32⟩
  | 58 => ⟨S4x196, .i32⟩
  | 59 => ⟨S4x196, .i32⟩
  | 60 => ⟨S4x196, .i32⟩
  | 61 => ⟨S4x196, .i32⟩
  | 62 => ⟨S4x196, .i32⟩
  | 63 => ⟨S4x196, .i32⟩
  | 64 => ⟨S4x196, .i32⟩
  | 65 => ⟨S4x196, .i32⟩
  | 66 => ⟨S_, .i32⟩
  | 67 => ⟨S4x196, .i32⟩
  | 68 => ⟨S4x196, .i32⟩
  | 69 => ⟨S4x196, .i32⟩
  | 70 => ⟨S_, .i32⟩
  | 71 => ⟨S4x196, .i32⟩
  | 72 => ⟨S4x196, .i32⟩
  | 73 => ⟨S_, .i32⟩
  | 74 => ⟨S4x196, .i32⟩
  | 75 => ⟨S4x196, .i32⟩
  | 76 => ⟨S4x196, .i32⟩
  | 77 => ⟨S4x196, .i32⟩
  | 78 => ⟨S4x196, .i32⟩
  | 79 => ⟨S_, .i32⟩
  | 80 => ⟨S4x196, .i32⟩
  | 81 => ⟨S4x196, .i32⟩
  | 82 => ⟨S_, .i32⟩
  | 83 => ⟨S4x196, .i32⟩
  | 84 => ⟨S4x196, .i32⟩
  | 85 => ⟨S4x196, .i32⟩
  | 86 => ⟨S4x196, .i32⟩
  | 87 => ⟨S4x196, .i32⟩
  | 88 => ⟨S_, .i32⟩
  | 89 => ⟨S4x196, .i32⟩
  | 90 => ⟨S4x196, .i32⟩
  | 91 => ⟨S_, .i32⟩
  | 92 => ⟨S4x196, .i32⟩
  | 93 => ⟨S4x196, .i32⟩
  | 94 => ⟨S4x196, .i32⟩
  | 95 => ⟨S4x196, .i32⟩
  | 96 => ⟨S4x196, .i32⟩
  | 97 => ⟨S_, .i32⟩
  | 98 => ⟨S4x196, .i32⟩
  | 99 => ⟨S4x196, .i32⟩
  | 100 => ⟨S_, .i32⟩
  | 101 => ⟨S4x196, .i32⟩
  | 102 => ⟨S4x196, .i32⟩
  | 103 => ⟨S4x196, .i32⟩
  | 104 => ⟨S4x196, .i32⟩
  | 105 => ⟨S4x196, .i32⟩
  | 106 => ⟨S4x196, .i32⟩
  | 107 => ⟨S4x196, .i32⟩
  | 108 => ⟨S4x196, .i32⟩
  | 109 => ⟨S_, .i32⟩
  | 110 => ⟨S4x196, .i32⟩
  | 111 => ⟨S4x196, .i32⟩
  | 112 => ⟨S4x196, .i32⟩
  | 113 => ⟨S_, .i32⟩
  | 114 => ⟨S4x196, .i32⟩
  | 115 => ⟨S4x196, .i32⟩
  | 116 => ⟨S_, .i32⟩
  | 117 => ⟨S4x196, .i32⟩
  | 118 => ⟨S4x196, .i32⟩
  | 119 => ⟨S4x196, .i32⟩
  | 120 => ⟨S4x196, .i32⟩
  | 121 => ⟨S4x196, .i32⟩
  | 122 => ⟨S_, .i32⟩
  | 123 => ⟨S4x196, .i32⟩
  | 124 => ⟨S4x196, .i32⟩
  | 125 => ⟨S_, .i32⟩
  | 126 => ⟨S4x196, .i32⟩
  | 127 => ⟨S4x196, .i32⟩
  | _ => ⟨S4x384x224x224, .f32⟩

abbrev hbmTy0_3 (i : Nat) : BufTy := match i % 128 with
  | 0 => ⟨S4x196, .i32⟩
  | 1 => ⟨S4x196, .i32⟩
  | 2 => ⟨S4x196, .i32⟩
  | 3 => ⟨S_, .i32⟩
  | 4 => ⟨S4x196, .i32⟩
  | 5 => ⟨S4x196, .i32⟩
  | 6 => ⟨S_, .i32⟩
  | 7 => ⟨S4x196, .i32⟩
  | 8 => ⟨S4x196, .i32⟩
  | 9 => ⟨S4x196, .i32⟩
  | 10 => ⟨S4x196, .i32⟩
  | 11 => ⟨S4x196, .i32⟩
  | 12 => ⟨S_, .i32⟩
  | 13 => ⟨S4x196, .i32⟩
  | 14 => ⟨S4x196, .i32⟩
  | 15 => ⟨S_, .i32⟩
  | 16 => ⟨S4x196, .i32⟩
  | 17 => ⟨S4x196, .i32⟩
  | 18 => ⟨S4x196, .i32⟩
  | 19 => ⟨S4x196, .i32⟩
  | 20 => ⟨S4x196, .i32⟩
  | 21 => ⟨S4x196, .i32⟩
  | 22 => ⟨S4x196, .i32⟩
  | 23 => ⟨S4x196, .i32⟩
  | 24 => ⟨S_, .i32⟩
  | 25 => ⟨S4x196, .i32⟩
  | 26 => ⟨S4x196, .i32⟩
  | 27 => ⟨S4x196, .i32⟩
  | 28 => ⟨S_, .i32⟩
  | 29 => ⟨S4x196, .i32⟩
  | 30 => ⟨S4x196, .i32⟩
  | 31 => ⟨S_, .i32⟩
  | 32 => ⟨S4x196, .i32⟩
  | 33 => ⟨S4x196, .i32⟩
  | 34 => ⟨S4x196, .i32⟩
  | 35 => ⟨S4x196, .i32⟩
  | 36 => ⟨S4x196, .i32⟩
  | 37 => ⟨S_, .i32⟩
  | 38 => ⟨S4x196, .i32⟩
  | 39 => ⟨S4x196, .i32⟩
  | 40 => ⟨S_, .i32⟩
  | 41 => ⟨S4x196, .i32⟩
  | 42 => ⟨S4x196, .i32⟩
  | 43 => ⟨S4x196, .i32⟩
  | 44 => ⟨S4x196, .i32⟩
  | 45 => ⟨S4x196, .i32⟩
  | 46 => ⟨S_, .i32⟩
  | 47 => ⟨S4x196, .i32⟩
  | 48 => ⟨S4x196, .i32⟩
  | 49 => ⟨S_, .i32⟩
  | 50 => ⟨S4x196, .i32⟩
  | 51 => ⟨S4x196, .i32⟩
  | 52 => ⟨S4x196, .i32⟩
  | 53 => ⟨S4x196, .i32⟩
  | 54 => ⟨S4x196, .i32⟩
  | 55 => ⟨S_, .i32⟩
  | 56 => ⟨S4x196, .i32⟩
  | 57 => ⟨S4x196, .i32⟩
  | 58 => ⟨S_, .i32⟩
  | 59 => ⟨S4x196, .i32⟩
  | 60 => ⟨S4x196, .i32⟩
  | 61 => ⟨S4x196, .i32⟩
  | 62 => ⟨S4x196, .i32⟩
  | 63 => ⟨S4x196, .i32⟩
  | 64 => ⟨S4x196, .i32⟩
  | 65 => ⟨S4x196, .i32⟩
  | 66 => ⟨S4x196, .i32⟩
  | 67 => ⟨S_, .i32⟩
  | 68 => ⟨S4x196, .i32⟩
  | 69 => ⟨S4x196, .i32⟩
  | 70 => ⟨S4x196, .i32⟩
  | 71 => ⟨S_, .i32⟩
  | 72 => ⟨S4x196, .i32⟩
  | 73 => ⟨S4x196, .i32⟩
  | 74 => ⟨S_, .i32⟩
  | 75 => ⟨S4x196, .i32⟩
  | 76 => ⟨S4x196, .i32⟩
  | 77 => ⟨S4x196, .i32⟩
  | 78 => ⟨S4x196, .i32⟩
  | 79 => ⟨S4x196, .i32⟩
  | 80 => ⟨S_, .i32⟩
  | 81 => ⟨S4x196, .i32⟩
  | 82 => ⟨S4x196, .i32⟩
  | 83 => ⟨S_, .i32⟩
  | 84 => ⟨S4x196, .i32⟩
  | 85 => ⟨S4x196, .i32⟩
  | 86 => ⟨S4x196, .i32⟩
  | 87 => ⟨S4x196, .i32⟩
  | 88 => ⟨S4x196, .i32⟩
  | 89 => ⟨S_, .i32⟩
  | 90 => ⟨S4x196, .i32⟩
  | 91 => ⟨S4x196, .i32⟩
  | 92 => ⟨S_, .i32⟩
  | 93 => ⟨S4x196, .i32⟩
  | 94 => ⟨S4x196, .i32⟩
  | 95 => ⟨S4x196, .i32⟩
  | 96 => ⟨S4x196, .i32⟩
  | 97 => ⟨S4x196, .i32⟩
  | 98 => ⟨S_, .i32⟩
  | 99 => ⟨S4x196, .i32⟩
  | 100 => ⟨S4x196, .i32⟩
  | 101 => ⟨S_, .i32⟩
  | 102 => ⟨S4x196, .i32⟩
  | 103 => ⟨S4x196, .i32⟩
  | 104 => ⟨S4x196, .i32⟩
  | 105 => ⟨S4x196, .i32⟩
  | 106 => ⟨S4x196, .i32⟩
  | 107 => ⟨S4x196, .i32⟩
  | 108 => ⟨S4x196, .i32⟩
  | 109 => ⟨S4x196, .i32⟩
  | 110 => ⟨S_, .i32⟩
  | 111 => ⟨S4x196, .i32⟩
  | 112 => ⟨S4x196, .i32⟩
  | 113 => ⟨S4x196, .i32⟩
  | 114 => ⟨S_, .i32⟩
  | 115 => ⟨S4x196, .i32⟩
  | 116 => ⟨S4x196, .i32⟩
  | 117 => ⟨S_, .i32⟩
  | 118 => ⟨S4x196, .i32⟩
  | 119 => ⟨S4x196, .i32⟩
  | 120 => ⟨S4x196, .f32⟩
  | 121 => ⟨S_, .f32⟩
  | 122 => ⟨S4x196, .f32⟩
  | 123 => ⟨S4x196, .f32⟩
  | 124 => ⟨S1x1, .f32⟩
  | 125 => ⟨S4x196, .f32⟩
  | 126 => ⟨S4x196, .f32⟩
  | 127 => ⟨S4x196, .f32⟩
  | _ => ⟨S4x384x224x224, .f32⟩

abbrev hbmTy0_4 (i : Nat) : BufTy := match i % 128 with
  | 0 => ⟨S4x196, .f32⟩
  | 1 => ⟨S4x196, .f32⟩
  | 2 => ⟨S4x196, .f32⟩
  | 3 => ⟨S4x196, .i32⟩
  | 4 => ⟨S4x196, .f32⟩
  | 5 => ⟨S4x196, .i32⟩
  | 6 => ⟨S4x98, .i32⟩
  | 7 => ⟨S4x1x1x98, .i32⟩
  | 8 => ⟨S_, .i32⟩
  | 9 => ⟨S4x1x1x98, .i32⟩
  | 10 => ⟨S4x1x1x98, .i1⟩
  | 11 => ⟨S_, .i32⟩
  | 12 => ⟨S4x1x1x98, .i32⟩
  | 13 => ⟨S4x1x1x98, .i32⟩
  | 14 => ⟨S4x1x1x98, .i32⟩
  | 15 => ⟨S4x98x1, .i32⟩
  | 16 => ⟨S1, .i32⟩
  | 17 => ⟨S_, .i32⟩
  | 18 => ⟨S4x98x1, .i32⟩
  | 19 => ⟨S4x98x1, .i1⟩
  | 20 => ⟨S1x1x1, .i32⟩
  | 21 => ⟨S4x98x1, .i32⟩
  | 22 => ⟨S4x98x1, .i1⟩
  | 23 => ⟨S4x98x1, .i1⟩
  | 24 => ⟨S_, .i1⟩
  | 25 => ⟨S4x98, .i1⟩
  | 26 => ⟨S4x384x256x98, .f32⟩
  | 27 => ⟨S4x384x256x98, .i1⟩
  | 28 => ⟨S_, .f32⟩
  | 29 => ⟨S4x384x256x98, .f32⟩
  | 30 => ⟨S4x384x256x98, .f32⟩
  | 31 => ⟨S4x384x25088, .f32⟩
  | 32 => ⟨S4x25088x384, .f32⟩
  | _ => ⟨S4x384x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x384x224x224, .f32⟩

abbrev bufTy : (tb : Table) → Fin (tcTables nBuf tb) → BufTy
  | .hbm, ⟨i, _⟩ => hbmTy i
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_call0_v0 : Ref sig .tc := ⟨.hbm, 28, rfl⟩
abbrev main_call0_call0_c : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_c_0 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_c_1 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_2 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_c_3 : Ref sig .tc := ⟨.hbm, 48, rfl⟩
abbrev main_call0_call0_v16 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_c_4 : Ref sig .tc := ⟨.hbm, 54, rfl⟩
abbrev main_call0_call0_v21 : Ref sig .tc := ⟨.hbm, 55, rfl⟩
abbrev main_call0_call0_v22 : Ref sig .tc := ⟨.hbm, 56, rfl⟩
abbrev main_call0_call0_c_5 : Ref sig .tc := ⟨.hbm, 57, rfl⟩
abbrev main_call0_call0_v23 : Ref sig .tc := ⟨.hbm, 58, rfl⟩
abbrev main_call0_call0_v24 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_v27 : Ref sig .tc := ⟨.hbm, 62, rfl⟩
abbrev main_call0_call0_c_6 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_c_7 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_v32 : Ref sig .tc := ⟨.hbm, 69, rfl⟩
abbrev main_call0_call0_v33 : Ref sig .tc := ⟨.hbm, 70, rfl⟩
abbrev main_call0_call0_v34 : Ref sig .tc := ⟨.hbm, 71, rfl⟩
abbrev main_call0_call0_v35 : Ref sig .tc := ⟨.hbm, 72, rfl⟩
abbrev main_call0_call0_v36 : Ref sig .tc := ⟨.hbm, 73, rfl⟩
abbrev main_call0_call0_v37 : Ref sig .tc := ⟨.hbm, 74, rfl⟩
abbrev main_call0_call0_c_8 : Ref sig .tc := ⟨.hbm, 75, rfl⟩
abbrev main_call0_call0_v38 : Ref sig .tc := ⟨.hbm, 76, rfl⟩
abbrev main_call0_call0_v39 : Ref sig .tc := ⟨.hbm, 77, rfl⟩
abbrev main_call0_call0_v40 : Ref sig .tc := ⟨.hbm, 78, rfl⟩
abbrev main_call0_call0_c_9 : Ref sig .tc := ⟨.hbm, 79, rfl⟩
abbrev main_call0_call0_v41 : Ref sig .tc := ⟨.hbm, 80, rfl⟩
abbrev main_call0_call0_v42 : Ref sig .tc := ⟨.hbm, 81, rfl⟩
abbrev main_call0_call0_c_10 : Ref sig .tc := ⟨.hbm, 82, rfl⟩
abbrev main_call0_call0_v43 : Ref sig .tc := ⟨.hbm, 83, rfl⟩
abbrev main_call0_call0_v44 : Ref sig .tc := ⟨.hbm, 84, rfl⟩
abbrev main_call0_call0_v45 : Ref sig .tc := ⟨.hbm, 85, rfl⟩
abbrev main_call0_call0_v46 : Ref sig .tc := ⟨.hbm, 86, rfl⟩
abbrev main_call0_call0_v47 : Ref sig .tc := ⟨.hbm, 87, rfl⟩
abbrev main_call0_call0_c_11 : Ref sig .tc := ⟨.hbm, 88, rfl⟩
abbrev main_call0_call0_v48 : Ref sig .tc := ⟨.hbm, 89, rfl⟩
abbrev main_call0_call0_v49 : Ref sig .tc := ⟨.hbm, 90, rfl⟩
abbrev main_call0_call0_c_12 : Ref sig .tc := ⟨.hbm, 91, rfl⟩
abbrev main_call0_call0_v50 : Ref sig .tc := ⟨.hbm, 92, rfl⟩
abbrev main_call0_call0_v51 : Ref sig .tc := ⟨.hbm, 93, rfl⟩
abbrev main_call0_call0_v52 : Ref sig .tc := ⟨.hbm, 94, rfl⟩
abbrev main_call0_call0_v53 : Ref sig .tc := ⟨.hbm, 95, rfl⟩
abbrev main_call0_call0_v54 : Ref sig .tc := ⟨.hbm, 96, rfl⟩
abbrev main_call0_call0_c_13 : Ref sig .tc := ⟨.hbm, 97, rfl⟩
abbrev main_call0_call0_v55 : Ref sig .tc := ⟨.hbm, 98, rfl⟩
abbrev main_call0_call0_v56 : Ref sig .tc := ⟨.hbm, 99, rfl⟩
abbrev main_call0_call0_c_14 : Ref sig .tc := ⟨.hbm, 100, rfl⟩
abbrev main_call0_call0_v57 : Ref sig .tc := ⟨.hbm, 101, rfl⟩
abbrev main_call0_call0_v58 : Ref sig .tc := ⟨.hbm, 102, rfl⟩
abbrev main_call0_call0_v59 : Ref sig .tc := ⟨.hbm, 103, rfl⟩
abbrev main_call0_call0_v60 : Ref sig .tc := ⟨.hbm, 104, rfl⟩
abbrev main_call0_call0_v61 : Ref sig .tc := ⟨.hbm, 105, rfl⟩
abbrev main_call0_call0_c_15 : Ref sig .tc := ⟨.hbm, 106, rfl⟩
abbrev main_call0_call0_v62 : Ref sig .tc := ⟨.hbm, 107, rfl⟩
abbrev main_call0_call0_v63 : Ref sig .tc := ⟨.hbm, 108, rfl⟩
abbrev main_call0_call0_c_16 : Ref sig .tc := ⟨.hbm, 109, rfl⟩
abbrev main_call0_call0_v64 : Ref sig .tc := ⟨.hbm, 110, rfl⟩
abbrev main_call0_call0_v65 : Ref sig .tc := ⟨.hbm, 111, rfl⟩
abbrev main_call0_call0_v66 : Ref sig .tc := ⟨.hbm, 112, rfl⟩
abbrev main_call0_call0_v67 : Ref sig .tc := ⟨.hbm, 113, rfl⟩
abbrev main_call0_call0_v68 : Ref sig .tc := ⟨.hbm, 114, rfl⟩
abbrev main_call0_call0_v69 : Ref sig .tc := ⟨.hbm, 115, rfl⟩
abbrev main_call0_call0_v70 : Ref sig .tc := ⟨.hbm, 116, rfl⟩
abbrev main_call0_call0_v71 : Ref sig .tc := ⟨.hbm, 117, rfl⟩
abbrev main_call0_call0_c_17 : Ref sig .tc := ⟨.hbm, 118, rfl⟩
abbrev main_call0_call0_v72 : Ref sig .tc := ⟨.hbm, 119, rfl⟩
abbrev main_call0_call0_v73 : Ref sig .tc := ⟨.hbm, 120, rfl⟩
abbrev main_call0_call0_v74 : Ref sig .tc := ⟨.hbm, 121, rfl⟩
abbrev main_call0_call0_c_18 : Ref sig .tc := ⟨.hbm, 122, rfl⟩
abbrev main_call0_call0_v75 : Ref sig .tc := ⟨.hbm, 123, rfl⟩
abbrev main_call0_call0_v76 : Ref sig .tc := ⟨.hbm, 124, rfl⟩
abbrev main_call0_call0_c_19 : Ref sig .tc := ⟨.hbm, 125, rfl⟩
abbrev main_call0_call0_v77 : Ref sig .tc := ⟨.hbm, 126, rfl⟩
abbrev main_call0_call0_v78 : Ref sig .tc := ⟨.hbm, 127, rfl⟩
abbrev main_call0_call0_v79 : Ref sig .tc := ⟨.hbm, 128, rfl⟩
abbrev main_call0_call0_v80 : Ref sig .tc := ⟨.hbm, 129, rfl⟩
abbrev main_call0_call0_v81 : Ref sig .tc := ⟨.hbm, 130, rfl⟩
abbrev main_call0_call0_c_20 : Ref sig .tc := ⟨.hbm, 131, rfl⟩
abbrev main_call0_call0_v82 : Ref sig .tc := ⟨.hbm, 132, rfl⟩
abbrev main_call0_call0_v83 : Ref sig .tc := ⟨.hbm, 133, rfl⟩
abbrev main_call0_call0_c_21 : Ref sig .tc := ⟨.hbm, 134, rfl⟩
abbrev main_call0_call0_v84 : Ref sig .tc := ⟨.hbm, 135, rfl⟩
abbrev main_call0_call0_v85 : Ref sig .tc := ⟨.hbm, 136, rfl⟩
abbrev main_call0_call0_v86 : Ref sig .tc := ⟨.hbm, 137, rfl⟩
abbrev main_call0_call0_v87 : Ref sig .tc := ⟨.hbm, 138, rfl⟩
abbrev main_call0_call0_v88 : Ref sig .tc := ⟨.hbm, 139, rfl⟩
abbrev main_call0_call0_c_22 : Ref sig .tc := ⟨.hbm, 140, rfl⟩
abbrev main_call0_call0_v89 : Ref sig .tc := ⟨.hbm, 141, rfl⟩
abbrev main_call0_call0_v90 : Ref sig .tc := ⟨.hbm, 142, rfl⟩
abbrev main_call0_call0_c_23 : Ref sig .tc := ⟨.hbm, 143, rfl⟩
abbrev main_call0_call0_v91 : Ref sig .tc := ⟨.hbm, 144, rfl⟩
abbrev main_call0_call0_v92 : Ref sig .tc := ⟨.hbm, 145, rfl⟩
abbrev main_call0_call0_v93 : Ref sig .tc := ⟨.hbm, 146, rfl⟩
abbrev main_call0_call0_v94 : Ref sig .tc := ⟨.hbm, 147, rfl⟩
abbrev main_call0_call0_v95 : Ref sig .tc := ⟨.hbm, 148, rfl⟩
abbrev main_call0_call0_c_24 : Ref sig .tc := ⟨.hbm, 149, rfl⟩
abbrev main_call0_call0_v96 : Ref sig .tc := ⟨.hbm, 150, rfl⟩
abbrev main_call0_call0_v97 : Ref sig .tc := ⟨.hbm, 151, rfl⟩
abbrev main_call0_call0_c_25 : Ref sig .tc := ⟨.hbm, 152, rfl⟩
abbrev main_call0_call0_v98 : Ref sig .tc := ⟨.hbm, 153, rfl⟩
abbrev main_call0_call0_v99 : Ref sig .tc := ⟨.hbm, 154, rfl⟩
abbrev main_call0_call0_v100 : Ref sig .tc := ⟨.hbm, 155, rfl⟩
abbrev main_call0_call0_v101 : Ref sig .tc := ⟨.hbm, 156, rfl⟩
abbrev main_call0_call0_v102 : Ref sig .tc := ⟨.hbm, 157, rfl⟩
abbrev main_call0_call0_v103 : Ref sig .tc := ⟨.hbm, 158, rfl⟩
abbrev main_call0_call0_v104 : Ref sig .tc := ⟨.hbm, 159, rfl⟩
abbrev main_call0_call0_v105 : Ref sig .tc := ⟨.hbm, 160, rfl⟩
abbrev main_call0_call0_c_26 : Ref sig .tc := ⟨.hbm, 161, rfl⟩
abbrev main_call0_call0_v106 : Ref sig .tc := ⟨.hbm, 162, rfl⟩
abbrev main_call0_call0_v107 : Ref sig .tc := ⟨.hbm, 163, rfl⟩
abbrev main_call0_call0_v108 : Ref sig .tc := ⟨.hbm, 164, rfl⟩
abbrev main_call0_call0_c_27 : Ref sig .tc := ⟨.hbm, 165, rfl⟩
abbrev main_call0_call0_v109 : Ref sig .tc := ⟨.hbm, 166, rfl⟩
abbrev main_call0_call0_v110 : Ref sig .tc := ⟨.hbm, 167, rfl⟩
abbrev main_call0_call0_c_28 : Ref sig .tc := ⟨.hbm, 168, rfl⟩
abbrev main_call0_call0_v111 : Ref sig .tc := ⟨.hbm, 169, rfl⟩
abbrev main_call0_call0_v112 : Ref sig .tc := ⟨.hbm, 170, rfl⟩
abbrev main_call0_call0_v113 : Ref sig .tc := ⟨.hbm, 171, rfl⟩
abbrev main_call0_call0_v114 : Ref sig .tc := ⟨.hbm, 172, rfl⟩
abbrev main_call0_call0_v115 : Ref sig .tc := ⟨.hbm, 173, rfl⟩
abbrev main_call0_call0_c_29 : Ref sig .tc := ⟨.hbm, 174, rfl⟩
abbrev main_call0_call0_v116 : Ref sig .tc := ⟨.hbm, 175, rfl⟩
abbrev main_call0_call0_v117 : Ref sig .tc := ⟨.hbm, 176, rfl⟩
abbrev main_call0_call0_c_30 : Ref sig .tc := ⟨.hbm, 177, rfl⟩
abbrev main_call0_call0_v118 : Ref sig .tc := ⟨.hbm, 178, rfl⟩
abbrev main_call0_call0_v119 : Ref sig .tc := ⟨.hbm, 179, rfl⟩
abbrev main_call0_call0_v120 : Ref sig .tc := ⟨.hbm, 180, rfl⟩
abbrev main_call0_call0_v121 : Ref sig .tc := ⟨.hbm, 181, rfl⟩
abbrev main_call0_call0_v122 : Ref sig .tc := ⟨.hbm, 182, rfl⟩
abbrev main_call0_call0_c_31 : Ref sig .tc := ⟨.hbm, 183, rfl⟩
abbrev main_call0_call0_v123 : Ref sig .tc := ⟨.hbm, 184, rfl⟩
abbrev main_call0_call0_v124 : Ref sig .tc := ⟨.hbm, 185, rfl⟩
abbrev main_call0_call0_c_32 : Ref sig .tc := ⟨.hbm, 186, rfl⟩
abbrev main_call0_call0_v125 : Ref sig .tc := ⟨.hbm, 187, rfl⟩
abbrev main_call0_call0_v126 : Ref sig .tc := ⟨.hbm, 188, rfl⟩
abbrev main_call0_call0_v127 : Ref sig .tc := ⟨.hbm, 189, rfl⟩
abbrev main_call0_call0_v128 : Ref sig .tc := ⟨.hbm, 190, rfl⟩
abbrev main_call0_call0_v129 : Ref sig .tc := ⟨.hbm, 191, rfl⟩
abbrev main_call0_call0_c_33 : Ref sig .tc := ⟨.hbm, 192, rfl⟩
abbrev main_call0_call0_v130 : Ref sig .tc := ⟨.hbm, 193, rfl⟩
abbrev main_call0_call0_v131 : Ref sig .tc := ⟨.hbm, 194, rfl⟩
abbrev main_call0_call0_c_34 : Ref sig .tc := ⟨.hbm, 195, rfl⟩
abbrev main_call0_call0_v132 : Ref sig .tc := ⟨.hbm, 196, rfl⟩
abbrev main_call0_call0_v133 : Ref sig .tc := ⟨.hbm, 197, rfl⟩
abbrev main_call0_call0_v134 : Ref sig .tc := ⟨.hbm, 198, rfl⟩
abbrev main_call0_call0_v135 : Ref sig .tc := ⟨.hbm, 199, rfl⟩
abbrev main_call0_call0_v136 : Ref sig .tc := ⟨.hbm, 200, rfl⟩
abbrev main_call0_call0_v137 : Ref sig .tc := ⟨.hbm, 201, rfl⟩
abbrev main_call0_call0_v138 : Ref sig .tc := ⟨.hbm, 202, rfl⟩
abbrev main_call0_call0_v139 : Ref sig .tc := ⟨.hbm, 203, rfl⟩
abbrev main_call0_call0_c_35 : Ref sig .tc := ⟨.hbm, 204, rfl⟩
abbrev main_call0_call0_v140 : Ref sig .tc := ⟨.hbm, 205, rfl⟩
abbrev main_call0_call0_v141 : Ref sig .tc := ⟨.hbm, 206, rfl⟩
abbrev main_call0_call0_v142 : Ref sig .tc := ⟨.hbm, 207, rfl⟩
abbrev main_call0_call0_c_36 : Ref sig .tc := ⟨.hbm, 208, rfl⟩
abbrev main_call0_call0_v143 : Ref sig .tc := ⟨.hbm, 209, rfl⟩
abbrev main_call0_call0_v144 : Ref sig .tc := ⟨.hbm, 210, rfl⟩
abbrev main_call0_call0_c_37 : Ref sig .tc := ⟨.hbm, 211, rfl⟩
abbrev main_call0_call0_v145 : Ref sig .tc := ⟨.hbm, 212, rfl⟩
abbrev main_call0_call0_v146 : Ref sig .tc := ⟨.hbm, 213, rfl⟩
abbrev main_call0_call0_v147 : Ref sig .tc := ⟨.hbm, 214, rfl⟩
abbrev main_call0_call0_v148 : Ref sig .tc := ⟨.hbm, 215, rfl⟩
abbrev main_call0_call0_v149 : Ref sig .tc := ⟨.hbm, 216, rfl⟩
abbrev main_call0_call0_c_38 : Ref sig .tc := ⟨.hbm, 217, rfl⟩
abbrev main_call0_call0_v150 : Ref sig .tc := ⟨.hbm, 218, rfl⟩
abbrev main_call0_call0_v151 : Ref sig .tc := ⟨.hbm, 219, rfl⟩
abbrev main_call0_call0_c_39 : Ref sig .tc := ⟨.hbm, 220, rfl⟩
abbrev main_call0_call0_v152 : Ref sig .tc := ⟨.hbm, 221, rfl⟩
abbrev main_call0_call0_v153 : Ref sig .tc := ⟨.hbm, 222, rfl⟩
abbrev main_call0_call0_v154 : Ref sig .tc := ⟨.hbm, 223, rfl⟩
abbrev main_call0_call0_v155 : Ref sig .tc := ⟨.hbm, 224, rfl⟩
abbrev main_call0_call0_v156 : Ref sig .tc := ⟨.hbm, 225, rfl⟩
abbrev main_call0_call0_c_40 : Ref sig .tc := ⟨.hbm, 226, rfl⟩
abbrev main_call0_call0_v157 : Ref sig .tc := ⟨.hbm, 227, rfl⟩
abbrev main_call0_call0_v158 : Ref sig .tc := ⟨.hbm, 228, rfl⟩
abbrev main_call0_call0_c_41 : Ref sig .tc := ⟨.hbm, 229, rfl⟩
abbrev main_call0_call0_v159 : Ref sig .tc := ⟨.hbm, 230, rfl⟩
abbrev main_call0_call0_v160 : Ref sig .tc := ⟨.hbm, 231, rfl⟩
abbrev main_call0_call0_v161 : Ref sig .tc := ⟨.hbm, 232, rfl⟩
abbrev main_call0_call0_v162 : Ref sig .tc := ⟨.hbm, 233, rfl⟩
abbrev main_call0_call0_v163 : Ref sig .tc := ⟨.hbm, 234, rfl⟩
abbrev main_call0_call0_c_42 : Ref sig .tc := ⟨.hbm, 235, rfl⟩
abbrev main_call0_call0_v164 : Ref sig .tc := ⟨.hbm, 236, rfl⟩
abbrev main_call0_call0_v165 : Ref sig .tc := ⟨.hbm, 237, rfl⟩
abbrev main_call0_call0_c_43 : Ref sig .tc := ⟨.hbm, 238, rfl⟩
abbrev main_call0_call0_v166 : Ref sig .tc := ⟨.hbm, 239, rfl⟩
abbrev main_call0_call0_v167 : Ref sig .tc := ⟨.hbm, 240, rfl⟩
abbrev main_call0_call0_v168 : Ref sig .tc := ⟨.hbm, 241, rfl⟩
abbrev main_call0_call0_v169 : Ref sig .tc := ⟨.hbm, 242, rfl⟩
abbrev main_call0_call0_v170 : Ref sig .tc := ⟨.hbm, 243, rfl⟩
abbrev main_call0_v11_0 : Ref sig .tc := ⟨.hbm, 244, rfl⟩
abbrev main_call0_call0_v172 : Ref sig .tc := ⟨.hbm, 245, rfl⟩
abbrev main_call0_call0_v173 : Ref sig .tc := ⟨.hbm, 246, rfl⟩
abbrev main_call0_call0_c_44 : Ref sig .tc := ⟨.hbm, 247, rfl⟩
abbrev main_call0_call0_v174 : Ref sig .tc := ⟨.hbm, 248, rfl⟩
abbrev main_call0_v11_1 : Ref sig .tc := ⟨.hbm, 249, rfl⟩
abbrev main_v10 : Ref sig .tc := ⟨.hbm, 250, rfl⟩
abbrev main_cst : Ref sig .tc := ⟨.hbm, 251, rfl⟩
abbrev main_cst_3 : Ref sig .tc := ⟨.hbm, 252, rfl⟩
abbrev main_call1_v0 : Ref sig .tc := ⟨.hbm, 253, rfl⟩
abbrev main_call1_v1 : Ref sig .tc := ⟨.hbm, 254, rfl⟩
abbrev main_call1_v2 : Ref sig .tc := ⟨.hbm, 255, rfl⟩
abbrev main_call1_v3 : Ref sig .tc := ⟨.hbm, 256, rfl⟩
abbrev main_call1_v4 : Ref sig .tc := ⟨.hbm, 257, rfl⟩
abbrev main_call1_v5 : Ref sig .tc := ⟨.hbm, 258, rfl⟩
abbrev main_call1_v6 : Ref sig .tc := ⟨.hbm, 259, rfl⟩
abbrev main_call1_v7 : Ref sig .tc := ⟨.hbm, 260, rfl⟩
abbrev main_call1_v8 : Ref sig .tc := ⟨.hbm, 261, rfl⟩
abbrev main_call1_v9 : Ref sig .tc := ⟨.hbm, 262, rfl⟩
abbrev main_call1_c : Ref sig .tc := ⟨.hbm, 263, rfl⟩
abbrev main_call1_v10 : Ref sig .tc := ⟨.hbm, 264, rfl⟩
abbrev main_call1_v11 : Ref sig .tc := ⟨.hbm, 265, rfl⟩
abbrev main_call1_c_0 : Ref sig .tc := ⟨.hbm, 266, rfl⟩
abbrev main_call1_v12 : Ref sig .tc := ⟨.hbm, 267, rfl⟩
abbrev main_call1_v13 : Ref sig .tc := ⟨.hbm, 268, rfl⟩
abbrev main_call1_v14 : Ref sig .tc := ⟨.hbm, 269, rfl⟩
abbrev main_call1_c_1 : Ref sig .tc := ⟨.hbm, 270, rfl⟩
abbrev main_call1_v15 : Ref sig .tc := ⟨.hbm, 271, rfl⟩
abbrev main_call1_v16 : Ref sig .tc := ⟨.hbm, 272, rfl⟩
abbrev main_call1_v17 : Ref sig .tc := ⟨.hbm, 273, rfl⟩
abbrev main_call1_v18 : Ref sig .tc := ⟨.hbm, 274, rfl⟩
abbrev main_call1_call0_v0 : Ref sig .tc := ⟨.hbm, 275, rfl⟩
abbrev main_call1_call0_c : Ref sig .tc := ⟨.hbm, 276, rfl⟩
abbrev main_call1_call0_v1 : Ref sig .tc := ⟨.hbm, 277, rfl⟩
abbrev main_call1_call0_v2 : Ref sig .tc := ⟨.hbm, 278, rfl⟩
abbrev main_call1_call0_v3 : Ref sig .tc := ⟨.hbm, 279, rfl⟩
abbrev main_call1_call0_v4 : Ref sig .tc := ⟨.hbm, 280, rfl⟩
abbrev main_call1_call0_v5 : Ref sig .tc := ⟨.hbm, 281, rfl⟩
abbrev main_call1_call0_v6 : Ref sig .tc := ⟨.hbm, 282, rfl⟩
abbrev main_call1_call0_c_0 : Ref sig .tc := ⟨.hbm, 283, rfl⟩
abbrev main_call1_call0_v7 : Ref sig .tc := ⟨.hbm, 284, rfl⟩
abbrev main_call1_call0_v8 : Ref sig .tc := ⟨.hbm, 285, rfl⟩
abbrev main_call1_call0_c_1 : Ref sig .tc := ⟨.hbm, 286, rfl⟩
abbrev main_call1_call0_v9 : Ref sig .tc := ⟨.hbm, 287, rfl⟩
abbrev main_call1_call0_v10 : Ref sig .tc := ⟨.hbm, 288, rfl⟩
abbrev main_call1_call0_v11 : Ref sig .tc := ⟨.hbm, 289, rfl⟩
abbrev main_call1_call0_v12 : Ref sig .tc := ⟨.hbm, 290, rfl⟩
abbrev main_call1_call0_v13 : Ref sig .tc := ⟨.hbm, 291, rfl⟩
abbrev main_call1_call0_c_2 : Ref sig .tc := ⟨.hbm, 292, rfl⟩
abbrev main_call1_call0_v14 : Ref sig .tc := ⟨.hbm, 293, rfl⟩
abbrev main_call1_call0_v15 : Ref sig .tc := ⟨.hbm, 294, rfl⟩
abbrev main_call1_call0_c_3 : Ref sig .tc := ⟨.hbm, 295, rfl⟩
abbrev main_call1_call0_v16 : Ref sig .tc := ⟨.hbm, 296, rfl⟩
abbrev main_call1_call0_v17 : Ref sig .tc := ⟨.hbm, 297, rfl⟩
abbrev main_call1_call0_v18 : Ref sig .tc := ⟨.hbm, 298, rfl⟩
abbrev main_call1_call0_v19 : Ref sig .tc := ⟨.hbm, 299, rfl⟩
abbrev main_call1_call0_v20 : Ref sig .tc := ⟨.hbm, 300, rfl⟩
abbrev main_call1_call0_c_4 : Ref sig .tc := ⟨.hbm, 301, rfl⟩
abbrev main_call1_call0_v21 : Ref sig .tc := ⟨.hbm, 302, rfl⟩
abbrev main_call1_call0_v22 : Ref sig .tc := ⟨.hbm, 303, rfl⟩
abbrev main_call1_call0_c_5 : Ref sig .tc := ⟨.hbm, 304, rfl⟩
abbrev main_call1_call0_v23 : Ref sig .tc := ⟨.hbm, 305, rfl⟩
abbrev main_call1_call0_v24 : Ref sig .tc := ⟨.hbm, 306, rfl⟩
abbrev main_call1_call0_v25 : Ref sig .tc := ⟨.hbm, 307, rfl⟩
abbrev main_call1_call0_v26 : Ref sig .tc := ⟨.hbm, 308, rfl⟩
abbrev main_call1_call0_v27 : Ref sig .tc := ⟨.hbm, 309, rfl⟩
abbrev main_call1_call0_c_6 : Ref sig .tc := ⟨.hbm, 310, rfl⟩
abbrev main_call1_call0_v28 : Ref sig .tc := ⟨.hbm, 311, rfl⟩
abbrev main_call1_call0_v29 : Ref sig .tc := ⟨.hbm, 312, rfl⟩
abbrev main_call1_call0_c_7 : Ref sig .tc := ⟨.hbm, 313, rfl⟩
abbrev main_call1_call0_v30 : Ref sig .tc := ⟨.hbm, 314, rfl⟩
abbrev main_call1_call0_v31 : Ref sig .tc := ⟨.hbm, 315, rfl⟩
abbrev main_call1_call0_v32 : Ref sig .tc := ⟨.hbm, 316, rfl⟩
abbrev main_call1_call0_v33 : Ref sig .tc := ⟨.hbm, 317, rfl⟩
abbrev main_call1_call0_v34 : Ref sig .tc := ⟨.hbm, 318, rfl⟩
abbrev main_call1_call0_v35 : Ref sig .tc := ⟨.hbm, 319, rfl⟩
abbrev main_call1_call0_v36 : Ref sig .tc := ⟨.hbm, 320, rfl⟩
abbrev main_call1_call0_v37 : Ref sig .tc := ⟨.hbm, 321, rfl⟩
abbrev main_call1_call0_c_8 : Ref sig .tc := ⟨.hbm, 322, rfl⟩
abbrev main_call1_call0_v38 : Ref sig .tc := ⟨.hbm, 323, rfl⟩
abbrev main_call1_call0_v39 : Ref sig .tc := ⟨.hbm, 324, rfl⟩
abbrev main_call1_call0_v40 : Ref sig .tc := ⟨.hbm, 325, rfl⟩
abbrev main_call1_call0_c_9 : Ref sig .tc := ⟨.hbm, 326, rfl⟩
abbrev main_call1_call0_v41 : Ref sig .tc := ⟨.hbm, 327, rfl⟩
abbrev main_call1_call0_v42 : Ref sig .tc := ⟨.hbm, 328, rfl⟩
abbrev main_call1_call0_c_10 : Ref sig .tc := ⟨.hbm, 329, rfl⟩
abbrev main_call1_call0_v43 : Ref sig .tc := ⟨.hbm, 330, rfl⟩
abbrev main_call1_call0_v44 : Ref sig .tc := ⟨.hbm, 331, rfl⟩
abbrev main_call1_call0_v45 : Ref sig .tc := ⟨.hbm, 332, rfl⟩
abbrev main_call1_call0_v46 : Ref sig .tc := ⟨.hbm, 333, rfl⟩
abbrev main_call1_call0_v47 : Ref sig .tc := ⟨.hbm, 334, rfl⟩
abbrev main_call1_call0_c_11 : Ref sig .tc := ⟨.hbm, 335, rfl⟩
abbrev main_call1_call0_v48 : Ref sig .tc := ⟨.hbm, 336, rfl⟩
abbrev main_call1_call0_v49 : Ref sig .tc := ⟨.hbm, 337, rfl⟩
abbrev main_call1_call0_c_12 : Ref sig .tc := ⟨.hbm, 338, rfl⟩
abbrev main_call1_call0_v50 : Ref sig .tc := ⟨.hbm, 339, rfl⟩
abbrev main_call1_call0_v51 : Ref sig .tc := ⟨.hbm, 340, rfl⟩
abbrev main_call1_call0_v52 : Ref sig .tc := ⟨.hbm, 341, rfl⟩
abbrev main_call1_call0_v53 : Ref sig .tc := ⟨.hbm, 342, rfl⟩
abbrev main_call1_call0_v54 : Ref sig .tc := ⟨.hbm, 343, rfl⟩
abbrev main_call1_call0_c_13 : Ref sig .tc := ⟨.hbm, 344, rfl⟩
abbrev main_call1_call0_v55 : Ref sig .tc := ⟨.hbm, 345, rfl⟩
abbrev main_call1_call0_v56 : Ref sig .tc := ⟨.hbm, 346, rfl⟩
abbrev main_call1_call0_c_14 : Ref sig .tc := ⟨.hbm, 347, rfl⟩
abbrev main_call1_call0_v57 : Ref sig .tc := ⟨.hbm, 348, rfl⟩
abbrev main_call1_call0_v58 : Ref sig .tc := ⟨.hbm, 349, rfl⟩
abbrev main_call1_call0_v59 : Ref sig .tc := ⟨.hbm, 350, rfl⟩
abbrev main_call1_call0_v60 : Ref sig .tc := ⟨.hbm, 351, rfl⟩
abbrev main_call1_call0_v61 : Ref sig .tc := ⟨.hbm, 352, rfl⟩
abbrev main_call1_call0_c_15 : Ref sig .tc := ⟨.hbm, 353, rfl⟩
abbrev main_call1_call0_v62 : Ref sig .tc := ⟨.hbm, 354, rfl⟩
abbrev main_call1_call0_v63 : Ref sig .tc := ⟨.hbm, 355, rfl⟩
abbrev main_call1_call0_c_16 : Ref sig .tc := ⟨.hbm, 356, rfl⟩
abbrev main_call1_call0_v64 : Ref sig .tc := ⟨.hbm, 357, rfl⟩
abbrev main_call1_call0_v65 : Ref sig .tc := ⟨.hbm, 358, rfl⟩
abbrev main_call1_call0_v66 : Ref sig .tc := ⟨.hbm, 359, rfl⟩
abbrev main_call1_call0_v67 : Ref sig .tc := ⟨.hbm, 360, rfl⟩
abbrev main_call1_call0_v68 : Ref sig .tc := ⟨.hbm, 361, rfl⟩
abbrev main_call1_call0_v69 : Ref sig .tc := ⟨.hbm, 362, rfl⟩
abbrev main_call1_call0_v70 : Ref sig .tc := ⟨.hbm, 363, rfl⟩
abbrev main_call1_call0_v71 : Ref sig .tc := ⟨.hbm, 364, rfl⟩
abbrev main_call1_call0_c_17 : Ref sig .tc := ⟨.hbm, 365, rfl⟩
abbrev main_call1_call0_v72 : Ref sig .tc := ⟨.hbm, 366, rfl⟩
abbrev main_call1_call0_v73 : Ref sig .tc := ⟨.hbm, 367, rfl⟩
abbrev main_call1_call0_v74 : Ref sig .tc := ⟨.hbm, 368, rfl⟩
abbrev main_call1_call0_c_18 : Ref sig .tc := ⟨.hbm, 369, rfl⟩
abbrev main_call1_call0_v75 : Ref sig .tc := ⟨.hbm, 370, rfl⟩
abbrev main_call1_call0_v76 : Ref sig .tc := ⟨.hbm, 371, rfl⟩
abbrev main_call1_call0_c_19 : Ref sig .tc := ⟨.hbm, 372, rfl⟩
abbrev main_call1_call0_v77 : Ref sig .tc := ⟨.hbm, 373, rfl⟩
abbrev main_call1_call0_v78 : Ref sig .tc := ⟨.hbm, 374, rfl⟩
abbrev main_call1_call0_v79 : Ref sig .tc := ⟨.hbm, 375, rfl⟩
abbrev main_call1_call0_v80 : Ref sig .tc := ⟨.hbm, 376, rfl⟩
abbrev main_call1_call0_v81 : Ref sig .tc := ⟨.hbm, 377, rfl⟩
abbrev main_call1_call0_c_20 : Ref sig .tc := ⟨.hbm, 378, rfl⟩
abbrev main_call1_call0_v82 : Ref sig .tc := ⟨.hbm, 379, rfl⟩
abbrev main_call1_call0_v83 : Ref sig .tc := ⟨.hbm, 380, rfl⟩
abbrev main_call1_call0_c_21 : Ref sig .tc := ⟨.hbm, 381, rfl⟩
abbrev main_call1_call0_v84 : Ref sig .tc := ⟨.hbm, 382, rfl⟩
abbrev main_call1_call0_v85 : Ref sig .tc := ⟨.hbm, 383, rfl⟩
abbrev main_call1_call0_v86 : Ref sig .tc := ⟨.hbm, 384, rfl⟩
abbrev main_call1_call0_v87 : Ref sig .tc := ⟨.hbm, 385, rfl⟩
abbrev main_call1_call0_v88 : Ref sig .tc := ⟨.hbm, 386, rfl⟩
abbrev main_call1_call0_c_22 : Ref sig .tc := ⟨.hbm, 387, rfl⟩
abbrev main_call1_call0_v89 : Ref sig .tc := ⟨.hbm, 388, rfl⟩
abbrev main_call1_call0_v90 : Ref sig .tc := ⟨.hbm, 389, rfl⟩
abbrev main_call1_call0_c_23 : Ref sig .tc := ⟨.hbm, 390, rfl⟩
abbrev main_call1_call0_v91 : Ref sig .tc := ⟨.hbm, 391, rfl⟩
abbrev main_call1_call0_v92 : Ref sig .tc := ⟨.hbm, 392, rfl⟩
abbrev main_call1_call0_v93 : Ref sig .tc := ⟨.hbm, 393, rfl⟩
abbrev main_call1_call0_v94 : Ref sig .tc := ⟨.hbm, 394, rfl⟩
abbrev main_call1_call0_v95 : Ref sig .tc := ⟨.hbm, 395, rfl⟩
abbrev main_call1_call0_c_24 : Ref sig .tc := ⟨.hbm, 396, rfl⟩
abbrev main_call1_call0_v96 : Ref sig .tc := ⟨.hbm, 397, rfl⟩
abbrev main_call1_call0_v97 : Ref sig .tc := ⟨.hbm, 398, rfl⟩
abbrev main_call1_call0_c_25 : Ref sig .tc := ⟨.hbm, 399, rfl⟩
abbrev main_call1_call0_v98 : Ref sig .tc := ⟨.hbm, 400, rfl⟩
abbrev main_call1_call0_v99 : Ref sig .tc := ⟨.hbm, 401, rfl⟩
abbrev main_call1_call0_v100 : Ref sig .tc := ⟨.hbm, 402, rfl⟩
abbrev main_call1_call0_v101 : Ref sig .tc := ⟨.hbm, 403, rfl⟩
abbrev main_call1_call0_v102 : Ref sig .tc := ⟨.hbm, 404, rfl⟩
abbrev main_call1_call0_v103 : Ref sig .tc := ⟨.hbm, 405, rfl⟩
abbrev main_call1_call0_v104 : Ref sig .tc := ⟨.hbm, 406, rfl⟩
abbrev main_call1_call0_v105 : Ref sig .tc := ⟨.hbm, 407, rfl⟩
abbrev main_call1_call0_c_26 : Ref sig .tc := ⟨.hbm, 408, rfl⟩
abbrev main_call1_call0_v106 : Ref sig .tc := ⟨.hbm, 409, rfl⟩
abbrev main_call1_call0_v107 : Ref sig .tc := ⟨.hbm, 410, rfl⟩
abbrev main_call1_call0_v108 : Ref sig .tc := ⟨.hbm, 411, rfl⟩
abbrev main_call1_call0_c_27 : Ref sig .tc := ⟨.hbm, 412, rfl⟩
abbrev main_call1_call0_v109 : Ref sig .tc := ⟨.hbm, 413, rfl⟩
abbrev main_call1_call0_v110 : Ref sig .tc := ⟨.hbm, 414, rfl⟩
abbrev main_call1_call0_c_28 : Ref sig .tc := ⟨.hbm, 415, rfl⟩
abbrev main_call1_call0_v111 : Ref sig .tc := ⟨.hbm, 416, rfl⟩
abbrev main_call1_call0_v112 : Ref sig .tc := ⟨.hbm, 417, rfl⟩
abbrev main_call1_call0_v113 : Ref sig .tc := ⟨.hbm, 418, rfl⟩
abbrev main_call1_call0_v114 : Ref sig .tc := ⟨.hbm, 419, rfl⟩
abbrev main_call1_call0_v115 : Ref sig .tc := ⟨.hbm, 420, rfl⟩
abbrev main_call1_call0_c_29 : Ref sig .tc := ⟨.hbm, 421, rfl⟩
abbrev main_call1_call0_v116 : Ref sig .tc := ⟨.hbm, 422, rfl⟩
abbrev main_call1_call0_v117 : Ref sig .tc := ⟨.hbm, 423, rfl⟩
abbrev main_call1_call0_c_30 : Ref sig .tc := ⟨.hbm, 424, rfl⟩
abbrev main_call1_call0_v118 : Ref sig .tc := ⟨.hbm, 425, rfl⟩
abbrev main_call1_call0_v119 : Ref sig .tc := ⟨.hbm, 426, rfl⟩
abbrev main_call1_call0_v120 : Ref sig .tc := ⟨.hbm, 427, rfl⟩
abbrev main_call1_call0_v121 : Ref sig .tc := ⟨.hbm, 428, rfl⟩
abbrev main_call1_call0_v122 : Ref sig .tc := ⟨.hbm, 429, rfl⟩
abbrev main_call1_call0_c_31 : Ref sig .tc := ⟨.hbm, 430, rfl⟩
abbrev main_call1_call0_v123 : Ref sig .tc := ⟨.hbm, 431, rfl⟩
abbrev main_call1_call0_v124 : Ref sig .tc := ⟨.hbm, 432, rfl⟩
abbrev main_call1_call0_c_32 : Ref sig .tc := ⟨.hbm, 433, rfl⟩
abbrev main_call1_call0_v125 : Ref sig .tc := ⟨.hbm, 434, rfl⟩
abbrev main_call1_call0_v126 : Ref sig .tc := ⟨.hbm, 435, rfl⟩
abbrev main_call1_call0_v127 : Ref sig .tc := ⟨.hbm, 436, rfl⟩
abbrev main_call1_call0_v128 : Ref sig .tc := ⟨.hbm, 437, rfl⟩
abbrev main_call1_call0_v129 : Ref sig .tc := ⟨.hbm, 438, rfl⟩
abbrev main_call1_call0_c_33 : Ref sig .tc := ⟨.hbm, 439, rfl⟩
abbrev main_call1_call0_v130 : Ref sig .tc := ⟨.hbm, 440, rfl⟩
abbrev main_call1_call0_v131 : Ref sig .tc := ⟨.hbm, 441, rfl⟩
abbrev main_call1_call0_c_34 : Ref sig .tc := ⟨.hbm, 442, rfl⟩
abbrev main_call1_call0_v132 : Ref sig .tc := ⟨.hbm, 443, rfl⟩
abbrev main_call1_call0_v133 : Ref sig .tc := ⟨.hbm, 444, rfl⟩
abbrev main_call1_call0_v134 : Ref sig .tc := ⟨.hbm, 445, rfl⟩
abbrev main_call1_call0_v135 : Ref sig .tc := ⟨.hbm, 446, rfl⟩
abbrev main_call1_call0_v136 : Ref sig .tc := ⟨.hbm, 447, rfl⟩
abbrev main_call1_call0_v137 : Ref sig .tc := ⟨.hbm, 448, rfl⟩
abbrev main_call1_call0_v138 : Ref sig .tc := ⟨.hbm, 449, rfl⟩
abbrev main_call1_call0_v139 : Ref sig .tc := ⟨.hbm, 450, rfl⟩
abbrev main_call1_call0_c_35 : Ref sig .tc := ⟨.hbm, 451, rfl⟩
abbrev main_call1_call0_v140 : Ref sig .tc := ⟨.hbm, 452, rfl⟩
abbrev main_call1_call0_v141 : Ref sig .tc := ⟨.hbm, 453, rfl⟩
abbrev main_call1_call0_v142 : Ref sig .tc := ⟨.hbm, 454, rfl⟩
abbrev main_call1_call0_c_36 : Ref sig .tc := ⟨.hbm, 455, rfl⟩
abbrev main_call1_call0_v143 : Ref sig .tc := ⟨.hbm, 456, rfl⟩
abbrev main_call1_call0_v144 : Ref sig .tc := ⟨.hbm, 457, rfl⟩
abbrev main_call1_call0_c_37 : Ref sig .tc := ⟨.hbm, 458, rfl⟩
abbrev main_call1_call0_v145 : Ref sig .tc := ⟨.hbm, 459, rfl⟩
abbrev main_call1_call0_v146 : Ref sig .tc := ⟨.hbm, 460, rfl⟩
abbrev main_call1_call0_v147 : Ref sig .tc := ⟨.hbm, 461, rfl⟩
abbrev main_call1_call0_v148 : Ref sig .tc := ⟨.hbm, 462, rfl⟩
abbrev main_call1_call0_v149 : Ref sig .tc := ⟨.hbm, 463, rfl⟩
abbrev main_call1_call0_c_38 : Ref sig .tc := ⟨.hbm, 464, rfl⟩
abbrev main_call1_call0_v150 : Ref sig .tc := ⟨.hbm, 465, rfl⟩
abbrev main_call1_call0_v151 : Ref sig .tc := ⟨.hbm, 466, rfl⟩
abbrev main_call1_call0_c_39 : Ref sig .tc := ⟨.hbm, 467, rfl⟩
abbrev main_call1_call0_v152 : Ref sig .tc := ⟨.hbm, 468, rfl⟩
abbrev main_call1_call0_v153 : Ref sig .tc := ⟨.hbm, 469, rfl⟩
abbrev main_call1_call0_v154 : Ref sig .tc := ⟨.hbm, 470, rfl⟩
abbrev main_call1_call0_v155 : Ref sig .tc := ⟨.hbm, 471, rfl⟩
abbrev main_call1_call0_v156 : Ref sig .tc := ⟨.hbm, 472, rfl⟩
abbrev main_call1_call0_c_40 : Ref sig .tc := ⟨.hbm, 473, rfl⟩
abbrev main_call1_call0_v157 : Ref sig .tc := ⟨.hbm, 474, rfl⟩
abbrev main_call1_call0_v158 : Ref sig .tc := ⟨.hbm, 475, rfl⟩
abbrev main_call1_call0_c_41 : Ref sig .tc := ⟨.hbm, 476, rfl⟩
abbrev main_call1_call0_v159 : Ref sig .tc := ⟨.hbm, 477, rfl⟩
abbrev main_call1_call0_v160 : Ref sig .tc := ⟨.hbm, 478, rfl⟩
abbrev main_call1_call0_v161 : Ref sig .tc := ⟨.hbm, 479, rfl⟩
abbrev main_call1_call0_v162 : Ref sig .tc := ⟨.hbm, 480, rfl⟩
abbrev main_call1_call0_v163 : Ref sig .tc := ⟨.hbm, 481, rfl⟩
abbrev main_call1_call0_c_42 : Ref sig .tc := ⟨.hbm, 482, rfl⟩
abbrev main_call1_call0_v164 : Ref sig .tc := ⟨.hbm, 483, rfl⟩
abbrev main_call1_call0_v165 : Ref sig .tc := ⟨.hbm, 484, rfl⟩
abbrev main_call1_call0_c_43 : Ref sig .tc := ⟨.hbm, 485, rfl⟩
abbrev main_call1_call0_v166 : Ref sig .tc := ⟨.hbm, 486, rfl⟩
abbrev main_call1_call0_v167 : Ref sig .tc := ⟨.hbm, 487, rfl⟩
abbrev main_call1_call0_v168 : Ref sig .tc := ⟨.hbm, 488, rfl⟩
abbrev main_call1_call0_v169 : Ref sig .tc := ⟨.hbm, 489, rfl⟩
abbrev main_call1_call0_v170 : Ref sig .tc := ⟨.hbm, 490, rfl⟩
abbrev main_call1_v19_0 : Ref sig .tc := ⟨.hbm, 491, rfl⟩
abbrev main_call1_call0_v172 : Ref sig .tc := ⟨.hbm, 492, rfl⟩
abbrev main_call1_call0_v173 : Ref sig .tc := ⟨.hbm, 493, rfl⟩
abbrev main_call1_call0_c_44 : Ref sig .tc := ⟨.hbm, 494, rfl⟩
abbrev main_call1_call0_v174 : Ref sig .tc := ⟨.hbm, 495, rfl⟩
abbrev main_call1_v19_1 : Ref sig .tc := ⟨.hbm, 496, rfl⟩
abbrev main_call1_v20 : Ref sig .tc := ⟨.hbm, 497, rfl⟩
abbrev main_call1_c_2 : Ref sig .tc := ⟨.hbm, 498, rfl⟩
abbrev main_call1_v21 : Ref sig .tc := ⟨.hbm, 499, rfl⟩
abbrev main_call1_v22 : Ref sig .tc := ⟨.hbm, 500, rfl⟩
abbrev main_call1_c_3 : Ref sig .tc := ⟨.hbm, 501, rfl⟩
abbrev main_call1_v23 : Ref sig .tc := ⟨.hbm, 502, rfl⟩
abbrev main_call1_v24 : Ref sig .tc := ⟨.hbm, 503, rfl⟩
abbrev main_call1_v25 : Ref sig .tc := ⟨.hbm, 504, rfl⟩
abbrev main_call1_cst : Ref sig .tc := ⟨.hbm, 505, rfl⟩
abbrev main_call1_v26 : Ref sig .tc := ⟨.hbm, 506, rfl⟩
abbrev main_call1_v27 : Ref sig .tc := ⟨.hbm, 507, rfl⟩
abbrev main_call1_v28 : Ref sig .tc := ⟨.hbm, 508, rfl⟩
abbrev main_call1_v29 : Ref sig .tc := ⟨.hbm, 509, rfl⟩
abbrev main_call1_v30 : Ref sig .tc := ⟨.hbm, 510, rfl⟩
abbrev main_call1_v31 : Ref sig .tc := ⟨.hbm, 511, rfl⟩
abbrev main_call1_v32 : Ref sig .tc := ⟨.hbm, 512, rfl⟩
abbrev main_call1_v33 : Ref sig .tc := ⟨.hbm, 513, rfl⟩
abbrev main_v11 : Ref sig .tc := ⟨.hbm, 514, rfl⟩
abbrev main_call2_v0 : Ref sig .tc := ⟨.hbm, 515, rfl⟩
abbrev main_call2_v1_0 : Ref sig .tc := ⟨.hbm, 516, rfl⟩
abbrev main_v12 : Ref sig .tc := ⟨.hbm, 517, rfl⟩
abbrev main_v13 : Ref sig .tc := ⟨.hbm, 518, rfl⟩
abbrev main_v14 : Ref sig .tc := ⟨.hbm, 519, rfl⟩
abbrev main_call3_c : Ref sig .tc := ⟨.hbm, 520, rfl⟩
abbrev main_call3_v0 : Ref sig .tc := ⟨.hbm, 521, rfl⟩
abbrev main_call3_v1 : Ref sig .tc := ⟨.hbm, 522, rfl⟩
abbrev main_call3_c_0 : Ref sig .tc := ⟨.hbm, 523, rfl⟩
abbrev main_call3_v2 : Ref sig .tc := ⟨.hbm, 524, rfl⟩
abbrev main_call3_v3 : Ref sig .tc := ⟨.hbm, 525, rfl⟩
abbrev main_call3_v4 : Ref sig .tc := ⟨.hbm, 526, rfl⟩
abbrev main_call3_v5 : Ref sig .tc := ⟨.hbm, 527, rfl⟩
abbrev main_call3_c_1 : Ref sig .tc := ⟨.hbm, 528, rfl⟩
abbrev main_call3_c_2 : Ref sig .tc := ⟨.hbm, 529, rfl⟩
abbrev main_call3_v6 : Ref sig .tc := ⟨.hbm, 530, rfl⟩
abbrev main_call3_v7 : Ref sig .tc := ⟨.hbm, 531, rfl⟩
abbrev main_call3_v8 : Ref sig .tc := ⟨.hbm, 532, rfl⟩
abbrev main_call3_v9 : Ref sig .tc := ⟨.hbm, 533, rfl⟩
abbrev main_call3_v10 : Ref sig .tc := ⟨.hbm, 534, rfl⟩
abbrev main_call3_v11 : Ref sig .tc := ⟨.hbm, 535, rfl⟩
abbrev main_call3_c_3 : Ref sig .tc := ⟨.hbm, 536, rfl⟩
abbrev main_call3_v12 : Ref sig .tc := ⟨.hbm, 537, rfl⟩
abbrev main_call3_v13 : Ref sig .tc := ⟨.hbm, 538, rfl⟩
abbrev main_call3_v14 : Ref sig .tc := ⟨.hbm, 539, rfl⟩
abbrev main_call3_cst : Ref sig .tc := ⟨.hbm, 540, rfl⟩
abbrev main_call3_v15 : Ref sig .tc := ⟨.hbm, 541, rfl⟩
abbrev main_v15 : Ref sig .tc := ⟨.hbm, 542, rfl⟩
abbrev main_v16 : Ref sig .tc := ⟨.hbm, 543, rfl⟩
abbrev main_v17 : Ref sig .tc := ⟨.hbm, 544, rfl⟩

abbrev nD : Nat := 1
abbrev τ : Topo := Topo.v7x

variable {F : FTy → Type} [FloatOps F]
-- ==== Proof.Transport.lean ====
/-
  The kernel and the kernel read at the ideal numbers are one program: they are printed from the same code and differ in
  their names only. What is proved of the runs of one, over any numbers, holds of the other.
-/
module

public import proofs.«01_k».proof.Proof.Gen.Kernel.Launch
public import proofs.«01_k».proof.Proof.Gen.KernelIdeal.Launch
import Idealize.ShloMosaic.Lib.Tactic

@[expose] public section

namespace Cert.Transport

open Idealize.ShloMosaic Idealize.ShloMosaic.TcCoe Idealize.SL.Sem

/-- Over the numbers `F` the kernel runs from any memory, leaves its argument as it was and every semaphore at zero; -/
def KernelRuns (F : FTy → Type) [FloatOps F] : Prop :=
  letI := Cert.Kernel.Gen.facts
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0))
      ∧ r.2.sem = fun _ => 0)

/-- so does the second print of it. -/
def KernelIdealRuns (F : FTy → Type) [FloatOps F] : Prop :=
  letI := Cert.KernelIdeal.Gen.facts
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0)

/-- The two statements are the same. -/
theorem runs_eq (F : FTy → Type) [FloatOps F] : KernelRuns F = KernelIdealRuns F := by sl_kernel_rfl

end Cert.Transport
-- ==== Proof.Windows.lean ====
/-
  The two windows a transfer of the body runs between, read at an index. The destination is one patch of the result
  array (image `b`, patch number `p`, all rows, columns and channels); the source is sixteen neighbouring columns of the
  staged strip. Each is a unit rectangle with its axes of extent one dropped, so an index of the (16, 16, 384) transfer
  names one element at either end.
-/
module

public import proofs.«01_k».proof.Proof.Gen.KernelIdeal.Launch
public import Idealize.ShloMosaic.Lib.ValueIdxCore
public import Idealize.ShloMosaic.Lib.ViewIndex
public import Idealize.ShloMosaic.Lib.Tactic

@[expose] public section

noncomputable section

namespace Cert.KernelIdeal.Patch

open Cert.KernelIdeal Cert.KernelIdeal.Gen
open Idealize.ShloMosaic Idealize.ShloMosaic.TcCoe Idealize.ShloMosaic.ValueIdx

variable {F : FTy → Type} [FloatOps F]

/-- The window of the result array at the offsets `o`, as the transfer's destination. -/
abbrev dstW (M : Memref sig .tc .hbm S4x16x16x98x384 .f32) (o : Fin 5 → ℕ)
    (h : ∀ a, o a + S1x16x16x1x384.size a ≤ S4x16x16x98x384.size a) : Memref sig .tc .hbm S16x16x384 .f32 :=
  (M.slice (Rect.unit (s := S4x16x16x98x384) o S1x16x16x1x384.size h) (fun _ => rfl)).squeeze S16x16x384
    squeezes_S1x16x16x1x384_S16x16x384

/-- The window of the staged strip at the offsets `o`, as the transfer's source. -/
abbrev srcW (M : Memref sig .tc .vmem S1x1x16x224x384 .f32) (o : Fin 5 → ℕ)
    (h : ∀ a, o a + S1x1x16x16x384.size a ≤ S1x1x16x224x384.size a) : Memref sig .tc .vmem S16x16x384 .f32 :=
  (M.slice (Rect.unit (s := S1x1x16x224x384) o S1x1x16x16x384.size h) (fun _ => rfl)).squeeze S16x16x384
    squeezes_S1x1x16x16x384_S16x16x384

/-- Reinserting the two axes of extent one of a destination window. -/
theorem dst_unsqueeze (h : S16x16x384.numel = S1x16x16x1x384.numel) (x : S16x16x384.Idx) :
    Shape.reshapeEquiv h x = (ix5 (0 : Fin 1) (x 0) (x 1) (0 : Fin 1) (x 2) : S1x16x16x1x384.Idx) :=
  Shape.reshapeEquiv_eq_of_rowMajor h (by
    rw [Shape.rowMajor_val_five, Shape.rowMajor_val_three]
    show (((0 * 16 + (x 0).val) * 16 + (x 1).val) * 1 + 0) * 384 + (x 2).val = ((x 0).val * 16 + (x 1).val) * 384 + (x 2).val
    omega)

/-- Reinserting the two axes of extent one of a source window. -/
theorem src_unsqueeze (h : S16x16x384.numel = S1x1x16x16x384.numel) (x : S16x16x384.Idx) :
    Shape.reshapeEquiv h x = (ix5 (0 : Fin 1) (0 : Fin 1) (x 0) (x 1) (x 2) : S1x1x16x16x384.Idx) :=
  Shape.reshapeEquiv_eq_of_rowMajor h (by
    rw [Shape.rowMajor_val_five, Shape.rowMajor_val_three]
    show (((0 * 1 + 0) * 16 + (x 0).val) * 16 + (x 1).val) * 384 + (x 2).val = ((x 0).val * 16 + (x 1).val) * 384 + (x 2).val
    omega)

/-- Where an index of a destination window lies in the array. -/
theorem emb_dstW {b p : ℕ} {h} (x : S16x16x384.Idx) (hb : b < 4) (hp : p < 98) :
    (dstW (Memref.whole main_v81) ![b, 0, 0, p, 0] h).view.emb x
      = (ix5 (⟨b, hb⟩ : Fin 4) (x 0) (x 1) (⟨p, hp⟩ : Fin 98) (x 2) : S4x16x16x98x384.Idx) := by
  show (Rect.unit (s := S4x16x16x98x384) ![b, 0, 0, p, 0] S1x16x16x1x384.size h).emb (Shape.reshapeEquiv _ x) = _
  rw [dst_unsqueeze]
  funext a
  apply Fin.ext
  rw [Rect.emb_apply]
  match a with
  | ⟨0, _⟩ => show b + 1 * 0 = b; omega
  | ⟨1, _⟩ => show 0 + 1 * (x 0).val = (x 0).val; omega
  | ⟨2, _⟩ => show 0 + 1 * (x 1).val = (x 1).val; omega
  | ⟨3, _⟩ => show p + 1 * 0 = p; omega
  | ⟨4, _⟩ => show 0 + 1 * (x 2).val = (x 2).val; omega

/-- The index of a destination window at an element of that window. -/
theorem emb_dstW_at {b p : ℕ} {h} (i : S4x16x16x98x384.Idx) (h0 : (i 0).val = b) (h3 : (i 3).val = p) :
    (dstW (Memref.whole main_v81) ![b, 0, 0, p, 0] h).view.emb (ix3 (i 1) (i 2) (i 4)) = i := by
  rw [emb_dstW _ (h0 ▸ (i 0).isLt) (h3 ▸ (i 3).isLt)]
  funext a
  apply Fin.ext
  match a with
  | ⟨0, _⟩ => exact h0.symm
  | ⟨1, _⟩ => rfl
  | ⟨2, _⟩ => rfl
  | ⟨3, _⟩ => exact h3.symm
  | ⟨4, _⟩ => rfl

/-- An element of the result is in the window of patch `p` of image `b` exactly when it is that patch's. -/
theorem mem_dstW {b p : ℕ} {h} (i : S4x16x16x98x384.Idx) (hb : b < 4) (hp : p < 98) :
    i ∈ (dstW (Memref.whole main_v81) ![b, 0, 0, p, 0] h).view.set ↔ (i 0).val = b ∧ (i 3).val = p := by
  constructor
  · intro hi
    obtain ⟨x, -, rfl⟩ := Finset.mem_map.mp hi
    rw [emb_dstW x hb hp]
    exact ⟨rfl, rfl⟩
  · rintro ⟨h0, h3⟩
    have e := emb_dstW_at (h := h) i h0 h3
    rw [← e]
    exact View.emb_mem_set _ _

/-- What a transfer's words become, at an element of its window. -/
theorem write_dstW {b p : ℕ} {h} (f : main_v81.ty.Contents (Elt F)) (w : S16x16x384.Idx → Elt F .f32)
    (i : S4x16x16x98x384.Idx) (h0 : (i 0).val = b) (h3 : (i 3).val = p) :
    (dstW (Memref.whole main_v81) ![b, 0, 0, p, 0] h).view.write (Elt F) f w Finset.univ i = w (ix3 (i 1) (i 2) (i 4)) := by
  have e := emb_dstW_at (h := h) i h0 h3
  have := View.write_emb_of_mem (v := (dstW (Memref.whole main_v81) ![b, 0, 0, p, 0] h).view) f w (Finset.mem_univ (ix3 (i 1) (i 2) (i 4)))
  exact (congrArg (View.write (Elt F) (dstW (Memref.whole main_v81) ![b, 0, 0, p, 0] h).view f w Finset.univ) e).symm.trans this

/-- What a transfer reads, at an index of it. -/
theorem read_srcW {M : Memref sig .tc .vmem S1x1x16x224x384 .f32} {o : ℕ} {h} (f : M.view.ty.Contents (Elt F))
    (x : S16x16x384.Idx) (y : Fin 224) (hy : y.val = o + (x 1).val) :
    (srcW M ![0, 0, 0, o, 0] h).view.read (Elt F) f x
      = M.view.read (Elt F) f (ix5 (0 : Fin 1) (0 : Fin 1) (x 0) y (x 2) : S1x1x16x224x384.Idx) := by
  show M.view.read (Elt F) f ((Rect.unit (s := S1x1x16x224x384) ![0, 0, 0, o, 0] S1x1x16x16x384.size h).emb (Shape.reshapeEquiv _ x)) = _
  congr 1
  rw [src_unsqueeze]
  funext a
  apply Fin.ext
  rw [Rect.emb_apply]
  match a with
  | ⟨0, _⟩ => rfl
  | ⟨1, _⟩ => rfl
  | ⟨2, _⟩ => show 0 + 1 * (x 0).val = (x 0).val; omega
  | ⟨3, _⟩ => show o + 1 * (x 1).val = y.val; omega
  | ⟨4, _⟩ => show 0 + 1 * (x 2).val = (x 2).val; omega

end Cert.KernelIdeal.Patch

end
-- ==== Proof.Plan.lean ====
/-
  What the three scalar tables say, and the array they describe. A `Plan` is the tables' meaning: for image `b` and patch
  row `r` a number of patches, for each of them the patch column it is cut from and the position it is written at, and, the
  other way round, for every position the row and the rank it comes from. `Plan.result` is the patch array a plan
  describes, `Plan.done` the part of it that the first grid points have written.
-/
module

public import proofs.«01_k».proof.Proof.Windows

@[expose] public section

noncomputable section

namespace Cert.KernelIdeal.Patch

open Cert.KernelIdeal Cert.KernelIdeal.Gen
open Idealize.ShloMosaic Idealize.ShloMosaic.TcCoe Idealize.ShloMosaic.ValueIdx

/-- What the tables say. -/
structure Plan where
  /-- how many patches of image `b` lie in patch row `r`; -/
  cnt : Fin 4 → Fin 14 → ℕ
  /-- the patch column of the `k`-th of them; -/
  pw : Fin 4 → Fin 14 → Fin 14 → Fin 14
  /-- its position among the image's patches; -/
  pp : Fin 4 → Fin 14 → Fin 14 → Fin 98
  /-- the patch row and the rank in it of the patch at a position. -/
  slot : Fin 4 → Fin 98 → Fin 14 × Fin 14
  cnt_le : ∀ b r, cnt b r ≤ 14
  slot_lt : ∀ b p, (slot b p).2.val < cnt b (slot b p).1
  pp_slot : ∀ b p, pp b (slot b p).1 (slot b p).2 = p
  slot_pp : ∀ b r (k : Fin 14), k.val < cnt b r → slot b (pp b r k) = (r, k)

namespace Plan

variable (P : Plan)

/-- The image an element of the patch array is of, and its position among the image's patches. -/
def img (j : S4x16x16x98x384.Idx) : Fin 4 := j 0
@[inherit_doc img] def pos (j : S4x16x16x98x384.Idx) : Fin 98 := j 3

/-- The tables' words are the plan's numbers. -/
structure Tables (f20 : S4x14.Idx → BitVec 32) (f56 f78 : S4x14x14.Idx → BitVec 32) : Prop where
  cnt : ∀ b r, f20 (ix2 b r) = BitVec.ofNat 32 (P.cnt b r)
  pw : ∀ b r k, f56 (ix3 b r k) = BitVec.ofNat 32 (P.pw b r k).val
  pp : ∀ b r k, f78 (ix3 b r k) = BitVec.ofNat 32 (P.pp b r k).val

/-- Column `y` of the sixteen that start at patch column `w`. -/
def col (w : Fin 14) (y : Fin 16) : Fin 224 := ⟨w.val * 16 + y.val, by omega⟩

/-- The patch array: position `pos j` of image `img j` holds the sixteen rows and columns its slot names. -/
def result {α : Type} (x : S4x14x16x224x384.Idx → α) : S4x16x16x98x384.Idx → α := fun j =>
  x (ix5 (img j) (P.slot (img j) (pos j)).1 (j 1) (col (P.pw (img j) (P.slot (img j) (pos j)).1 (P.slot (img j) (pos j)).2) (j 2)) (j 4))

/-- The elements of the position `p` of image `b`. -/
def patch (b : Fin 4) (p : Fin 98) : Finset S4x16x16x98x384.Idx := Finset.univ.filter fun j => img j = b ∧ pos j = p

/-- The elements written before grid point `t`. -/
def done (t : ℕ) : Finset S4x16x16x98x384.Idx :=
  Finset.univ.filter fun j => (img j).val * 14 + (P.slot (img j) (pos j)).1.val < t

/-- The `k`-th patch written at image `b`, patch row `r`. -/
def piece (b : Fin 4) (r : Fin 14) (k : Fin (P.cnt b r)) : Finset S4x16x16x98x384.Idx :=
  patch b (P.pp b r ⟨k.val, k.isLt.trans_le (P.cnt_le b r)⟩)

theorem mem_patch {b : Fin 4} {p : Fin 98} {j : S4x16x16x98x384.Idx} : j ∈ patch b p ↔ img j = b ∧ pos j = p := by
  unfold patch; rw [Finset.mem_filter]; exact ⟨fun h => h.2, fun h => ⟨Finset.mem_univ _, h⟩⟩

theorem mem_done {t : ℕ} {j : S4x16x16x98x384.Idx} :
    j ∈ P.done t ↔ (img j).val * 14 + (P.slot (img j) (pos j)).1.val < t := by
  simp [done]

/-- The patches of one grid point lie apart. -/
theorem piece_disjoint (b : Fin 4) (r : Fin 14) (k k' : Fin (P.cnt b r)) (h : k ≠ k') :
    Disjoint (P.piece b r k) (P.piece b r k') := by
  rw [Finset.disjoint_left]
  intro j hj hj'
  rw [piece, mem_patch] at hj hj'
  have e := hj.2.symm.trans hj'.2
  have h1 := P.slot_pp b r ⟨k.val, k.isLt.trans_le (P.cnt_le b r)⟩ k.isLt
  have h2 := P.slot_pp b r ⟨k'.val, k'.isLt.trans_le (P.cnt_le b r)⟩ k'.isLt
  rw [e, h2] at h1
  exact h (Fin.ext (congrArg (fun s : Fin 14 × Fin 14 => s.2.val) h1).symm)

/-- An element of a grid point's patches is one whose slot is in the point's row. -/
theorem mem_pieces {b : Fin 4} {r : Fin 14} {j : S4x16x16x98x384.Idx} :
    j ∈ Finset.univ.biUnion (P.piece b r) ↔ img j = b ∧ (P.slot (img j) (pos j)).1 = r := by
  rw [Finset.mem_biUnion]
  constructor
  · rintro ⟨k, -, hk⟩
    rw [piece, mem_patch] at hk
    refine ⟨hk.1, ?_⟩
    rw [hk.1, hk.2, P.slot_pp b r _ k.isLt]
  · rintro ⟨h0, h1⟩
    subst h0
    subst h1
    refine ⟨⟨_, P.slot_lt (img j) (pos j)⟩, Finset.mem_univ _, ?_⟩
    rw [piece, mem_patch]
    exact ⟨rfl, (P.pp_slot (img j) (pos j)).symm⟩

/-- What is written before the next point is what was written before this one and this point's patches; -/
theorem done_succ (b : Fin 4) (r : Fin 14) :
    P.done (b.val * 14 + r.val + 1) = P.done (b.val * 14 + r.val) ∪ Finset.univ.biUnion (P.piece b r) := by
  ext j
  rw [Finset.mem_union, mem_pieces, mem_done, mem_done, Fin.ext_iff, Fin.ext_iff]
  have := (P.slot (img j) (pos j)).1.isLt
  have := r.isLt
  constructor
  · intro h; omega
  · intro h; omega

/-- these were not written before; -/
theorem done_disjoint (b : Fin 4) (r : Fin 14) :
    Disjoint (P.done (b.val * 14 + r.val)) (Finset.univ.biUnion (P.piece b r)) := by
  rw [Finset.disjoint_left]
  intro j hj hj'
  rw [mem_done] at hj
  rw [mem_pieces, Fin.ext_iff, Fin.ext_iff] at hj'
  omega

/-- nothing is written before the first point, -/
theorem done_zero : P.done 0 = ∅ := by
  ext j; rw [mem_done]; simp

/-- and everything before the last. -/
theorem done_all : P.done 56 = Finset.univ := by
  ext j
  rw [mem_done]
  have := (P.slot (img j) (pos j)).1.isLt
  have h0 := (img j).isLt
  simp only [Finset.mem_univ, iff_true]
  omega

/-- The result at an element of a piece. -/
theorem result_piece {α : Type} (x : S4x14x16x224x384.Idx → α) (b : Fin 4) (r : Fin 14) (k : Fin (P.cnt b r))
    (j : S4x16x16x98x384.Idx) (hj : j ∈ P.piece b r k) :
    P.result x j = x (ix5 b r (j 1) (col (P.pw b r ⟨k.val, k.isLt.trans_le (P.cnt_le b r)⟩) (j 2)) (j 4)) := by
  rw [piece, mem_patch] at hj
  unfold result
  rw [hj.1, hj.2, P.slot_pp b r _ k.isLt]

end Plan

end Cert.KernelIdeal.Patch

end
-- ==== Proof.Words.lean ====
/-
  The words the body computes with: the trip counts of its loops, the offsets of its accesses and the checks on them, for
  a table word that is a small number; and what it reads from a table.
-/
module

public import proofs.«01_k».proof.Proof.Plan

@[expose] public section

noncomputable section

namespace Cert.KernelIdeal.Patch

open Cert.KernelIdeal Cert.KernelIdeal.Gen
open Idealize.ShloMosaic Idealize.ShloMosaic.TcCoe Idealize.ShloMosaic.ValueIdx

variable {F : FTy → Type} [FloatOps F]

/-- The image and the patch row of a grid point. -/
def image (i : grid0.Coords) : Fin 4 := i 0
@[inherit_doc image] def row (i : grid0.Coords) : Fin 14 := i 1

/-- A count as the loops take it. -/
abbrev word (n : ℕ) : BitVec 32 := BitVec.ofNat 32 n

theorem toNat_word {n : ℕ} (h : n < 256) : (word n).toNat = n := by
  rw [word, BitVec.toNat_ofNat]; omega

theorem trips_issue {n : ℕ} (h : n ≤ 14) : (k0_t1_loop (word n)).trips = n :=
  (show ∀ n : Fin 15, (k0_t1_loop (word n.val)).trips = n.val by decide +kernel) ⟨n, by omega⟩
theorem trips_issue_rest {n : ℕ} (h : n ≤ 14) : (k0_t2_loop (word n)).trips = 0 :=
  (show ∀ n : Fin 15, (k0_t2_loop (word n.val)).trips = 0 by decide +kernel) ⟨n, by omega⟩
theorem trips_wait {n : ℕ} (h : n ≤ 14) : (k0_t3_loop (word n)).trips = n :=
  (show ∀ n : Fin 15, (k0_t3_loop (word n.val)).trips = n.val by decide +kernel) ⟨n, by omega⟩
theorem trips_wait_rest {n : ℕ} (h : n ≤ 14) : (k0_t4_loop (word n)).trips = 0 :=
  (show ∀ n : Fin 15, (k0_t4_loop (word n.val)).trips = 0 by decide +kernel) ⟨n, by omega⟩

theorem loops_ok {n : ℕ} (h : n ≤ 14) : (k0_t1_loop (word n)).OK ∧ (k0_t2_loop (word n)).OK ∧ (k0_t3_loop (word n)).OK
    ∧ (k0_t4_loop (word n)).OK :=
  (show ∀ n : Fin 15, (k0_t1_loop (word n.val)).OK ∧ (k0_t2_loop (word n.val)).OK ∧ (k0_t3_loop (word n.val)).OK
    ∧ (k0_t4_loop (word n.val)).OK by decide +kernel) ⟨n, by omega⟩

theorem off_tables (i : grid0.Coords) {n : ℕ} (h : n ≤ 14) (k : Fin (k0_t1_loop (word n)).trips) :
    k0_off2 i (word n) k = ![(image i).val, (row i).val, k.val] := by
  have h0 : (image i).val < 4 := (image i).isLt
  have h1 : (row i).val < 14 := (row i).isLt
  have hk : k.val < 14 := (k.isLt.trans_eq (trips_issue h)).trans_le h
  have e : Scf.iv 0#32 1#32 k.val = word k.val := by
    rw [Scf.iv]; simp [word]
  show ![(word (image i).val).toNat, (word (row i).val).toNat, (Scf.iv 0#32 1#32 k.val).toNat] = _
  rw [e, toNat_word (by omega), toNat_word (by omega), toNat_word (by omega)]

theorem off_dst (i : grid0.Coords) (p : Fin 98) : k0_off3 i (word p.val) = ![(image i).val, 0, 0, p.val, 0] := by
  have h0 : (image i).val < 4 := (image i).isLt
  show ![(word (image i).val).toNat, 0, 0, (word p.val).toNat, 0] = _
  rw [toNat_word (by omega), toNat_word (by omega)]

theorem off_src (w : Fin 14) : k0_off4 (word w.val) = ![0, 0, 0, w.val * 16, 0] := by
  show ![0, 0, 0, (word w.val * 16#32).toNat, 0] = _
  rw [BitVec.toNat_mul, toNat_word (by omega)]
  congr 4
  show w.val * 16 % 4294967296 = _
  omega

theorem dst_inb (b : Fin 4) (p : Fin 98) (a : Fin 5) :
    (![b.val, 0, 0, p.val, 0] : Fin 5 → ℕ) a + S1x16x16x1x384.size a ≤ S4x16x16x98x384.size a := by
  have := b.isLt
  have := p.isLt
  match a with
  | ⟨0, _⟩ => show b.val + 1 ≤ 4; omega
  | ⟨1, _⟩ => show 0 + 16 ≤ 16; omega
  | ⟨2, _⟩ => show 0 + 16 ≤ 16; omega
  | ⟨3, _⟩ => show p.val + 1 ≤ 98; omega
  | ⟨4, _⟩ => show 0 + 384 ≤ 384; omega

theorem src_inb (w : Fin 14) (a : Fin 5) :
    (![0, 0, 0, w.val * 16, 0] : Fin 5 → ℕ) a + S1x1x16x16x384.size a ≤ S1x1x16x224x384.size a := by
  have := w.isLt
  match a with
  | ⟨0, _⟩ => show 0 + 1 ≤ 1; omega
  | ⟨1, _⟩ => show 0 + 1 ≤ 1; omega
  | ⟨2, _⟩ => show 0 + 16 ≤ 16; omega
  | ⟨3, _⟩ => show w.val * 16 + 16 ≤ 224; omega
  | ⟨4, _⟩ => show 0 + 384 ≤ 384; omega

theorem check_dst (i : grid0.Coords) (p : Fin 98) : k0_chk2 i (word p.val) := by
  unfold k0_chk2; rw [off_dst]; exact dst_inb (image i) p

theorem check_src (w : Fin 14) : k0_chk3 (word w.val) := by
  unfold k0_chk3; rw [off_src]; exact src_inb w

theorem check_count (i : grid0.Coords) {n : ℕ} (h : n ≤ 14) : k0_chk1 i (word n) := by
  obtain ⟨o1, o2, o3, o4⟩ := loops_ok h
  refine ⟨o1, fun k a => ?_, o2, fun k => absurd (k.isLt.trans_eq (trips_issue_rest h)) (Nat.not_lt_zero _), o3, o4⟩
  rw [off_tables i h k]
  have h0 : (image i).val < 4 := (image i).isLt
  have h1 : (row i).val < 14 := (row i).isLt
  have hk : k.val < 14 := (k.isLt.trans_eq (trips_issue h)).trans_le h
  match a with
  | ⟨0, _⟩ => show (image i).val + 1 ≤ 4; omega
  | ⟨1, _⟩ => show (row i).val + 1 ≤ 14; omega
  | ⟨2, _⟩ => show k.val + 1 ≤ 14; omega

/-- The word read from the table of counts; -/
theorem read_counts (f : main_v20.ty.Contents (Elt F)) {o : Fin 2 → ℕ} {h} (b : Fin 4) (r : Fin 14) (e : o = ![b.val, r.val])
    (x : S1x1.Idx) :
    ((Memref.whole main_v20).access (Rect.unit (s := S4x14) o S1x1.size h)).read (Elt F) f x = f (ix2 b r) := by
  subst e
  show f ((Rect.unit (s := S4x14) ![b.val, r.val] S1x1.size h).emb x) = _
  congr 1
  funext a
  apply Fin.ext
  rw [Rect.emb_apply]
  match a with
  | ⟨0, h'⟩ => have : (x ⟨0, h'⟩).val < 1 := (x ⟨0, h'⟩).isLt
               show b.val + 1 * (x ⟨0, h'⟩).val = b.val; omega
  | ⟨1, h'⟩ => have : (x ⟨1, h'⟩).val < 1 := (x ⟨1, h'⟩).isLt
               show r.val + 1 * (x ⟨1, h'⟩).val = r.val; omega

/-- where a word of the two other tables lies; -/
theorem emb_table {o : Fin 3 → ℕ} {h} (b : Fin 4) (r k : Fin 14)
    (e : o = ![b.val, r.val, k.val]) (x : S1x1x1.Idx) :
    (Rect.unit (s := S4x14x14) o S1x1x1.size h).emb x = (ix3 b r k : S4x14x14.Idx) := by
  subst e
  funext a
  apply Fin.ext
  rw [Rect.emb_apply]
  match a with
  | ⟨0, h'⟩ => have : (x ⟨0, h'⟩).val < 1 := (x ⟨0, h'⟩).isLt
               show b.val + 1 * (x ⟨0, h'⟩).val = b.val; omega
  | ⟨1, h'⟩ => have : (x ⟨1, h'⟩).val < 1 := (x ⟨1, h'⟩).isLt
               show r.val + 1 * (x ⟨1, h'⟩).val = r.val; omega
  | ⟨2, h'⟩ => have : (x ⟨2, h'⟩).val < 1 := (x ⟨2, h'⟩).isLt
               show k.val + 1 * (x ⟨2, h'⟩).val = k.val; omega

/-- the words read from them. -/
theorem read_cols (f : main_v56.ty.Contents (Elt F)) {o : Fin 3 → ℕ} {h} (b : Fin 4) (r k : Fin 14)
    (e : o = ![b.val, r.val, k.val]) (x : S1x1x1.Idx) :
    ((Memref.whole main_v56).access (Rect.unit (s := S4x14x14) o S1x1x1.size h)).read (Elt F) f x = f (ix3 b r k) :=
  congrArg f (emb_table b r k e x)
@[inherit_doc read_cols] theorem read_positions (f : main_v78.ty.Contents (Elt F)) {o : Fin 3 → ℕ} {h} (b : Fin 4) (r k : Fin 14)
    (e : o = ![b.val, r.val, k.val]) (x : S1x1x1.Idx) :
    ((Memref.whole main_v78).access (Rect.unit (s := S4x14x14) o S1x1x1.size h)).read (Elt F) f x = f (ix3 b r k) :=
  congrArg f (emb_table b r k e x)

end Cert.KernelIdeal.Patch

end
-- ==== Proof.Body.lean ====
/-
  One grid point of the kernel, run. The body reads how many patches of its image lie in its patch row, starts one
  transfer for each of them, all on one semaphore, and then waits as many times; the transfers read overlapping windows
  of the staged strip, so each is given a read share of it, and write patches that lie apart. Nothing is known between
  the waits; after the last of them every transfer has landed, and the patches of the point hold the plan's result.
-/
module

public import proofs.«01_k».proof.Proof.Words
public import proofs.«01_k».proof.Proof.Gen.KernelIdeal.Skeleton
public import Idealize.ShloMosaic.Lib.Pipeline.FrameBody
public import Idealize.ShloMosaic.Lib.Batch
public import Idealize.ShloMosaic.Lib.Tactic

@[expose] public section

noncomputable section

namespace Cert.KernelIdeal.Patch

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending issued shareTok shareDrop)

variable {F : FTy → Type} [FloatOps F]

/-- The assertions of a core. -/
local notation "𝕄" => MT nD τ sig Unit (Elt F) ℕ (Pipeline.UD sig nD τ) ℕ

/-- The transfers' counters. -/
abbrev counters := countersEmb (U := Pipeline.UD sig nD τ) (nD := nD) (τ := τ) (sig := sig) (Ix := Unit) (Val := Elt F) (Name := ℕ) (Lvl := ℕ)

/-- The semaphore all transfers signal. -/
abbrev cell : SemLoc sig := .dma cc0_scratch0.sem

/-- The window a patch is read from; -/
abbrev srcAt (M : Memref sig .tc .vmem S1x1x16x224x384 .f32) (w : Fin 14) := srcW M ![0, 0, 0, w.val * 16, 0] (src_inb w)
/-- the window it is written to. -/
abbrev dstAt (b : Fin 4) (p : Fin 98) := dstW (Memref.whole main_v81) ![b.val, 0, 0, p.val, 0] (dst_inb b p)

/-- What one transfer pays. -/
abbrev units : ℕ := (dstAt 0 0).view.amount cell

theorem units_eq (b : Fin 4) (p : Fin 98) : (dstAt b p).view.amount cell = units := rfl
theorem units_pos : 0 < units := by decide +kernel

theorem srcAt_sub (M : Memref sig .tc .vmem S1x1x16x224x384 .f32) (w : Fin 14) : (srcAt M w).view.set ⊆ M.view.set := by
  intro x hx
  obtain ⟨y, -, rfl⟩ := Finset.mem_map.mp hx
  exact View.emb_mem_set M.view _

theorem dstAt_sub (b : Fin 4) (p : Fin 98) : (dstAt b p).view.set ⊆ Plan.patch b p := by
  intro j hj
  have h := (mem_dstW j b.isLt p.isLt).mp hj
  exact Plan.mem_patch.mpr ⟨Fin.ext h.1, Fin.ext h.2⟩

/-- A word of the staged strip's window, and of the patch it is copied to. -/
theorem landed (b : Fin 4) (r w : Fin 14) (p : Fin 98) {M : Memref sig .tc .vmem S1x1x16x224x384 .f32}
    (f : M.view.ty.Contents (Elt F)) (g : main_v81.ty.Contents (Elt F)) (x : S4x14x16x224x384.Idx → Elt F .f32)
    (hf : ∀ y1 y2 y3, M.view.read (Elt F) f (ix5 (0 : Fin 1) (0 : Fin 1) y1 y2 y3 : S1x1x16x224x384.Idx) = x (ix5 b r y1 y2 y3))
    (j : S4x16x16x98x384.Idx) (hj : j ∈ Plan.patch b p) :
    (dstAt b p).view.write (Elt F) g (ReadAs.same.apply ((srcAt M w).view.read (Elt F) f)) Finset.univ j
      = x (ix5 b r (j 1) (Plan.col w (j 2)) (j 4)) := by
  obtain ⟨h0, h3⟩ := Plan.mem_patch.mp hj
  have e := write_dstW (h := dst_inb b p) g (ReadAs.same.apply ((srcAt M w).view.read (Elt F) f)) j (congrArg Fin.val h0) (congrArg Fin.val h3)
  refine e.trans ?_
  have e' := read_srcW (h := src_inb w) f (ix3 (j 1) (j 2) (j 4)) (Plan.col w (j 2)) rfl
  exact e'.trans (hf _ _ _)

/-- What the transfers started so far have left, one more of them started. -/
theorem issued_step {n : ℕ} (A : Fin n → sProp 𝕄) (k : ℕ) (hk : k < n) :
    bigSep (issued (k + 1)) A = iprop(A ⟨k, hk⟩ ∗ bigSep (issued k) A) := by
  rw [Transfers.issued_succ hk, bigSep_insert (Transfers.not_mem_issued hk)]; rfl

section Point

variable (c : Dev nD) (P : Plan) (b : Fin 4) (r : Fin 14) (M : Memref sig .tc .vmem S1x1x16x224x384 .f32)
  (fs : Buf (Elt F) (M.view.loc (c : Thread nD τ))) (g₀ G : Buf (Elt F) ((Memref.whole main_v81 : Memref sig .tc .hbm S4x16x16x98x384 .f32).view.loc (c : Thread nD τ)))

/-- The rank of a patch of the point, in the tables. -/
abbrev rank (k : Fin (P.cnt b r)) : Fin 14 := ⟨k.val, k.isLt.trans_le (P.cnt_le b r)⟩

/-- Before its transfer starts: a read share of the strip, and the patch as it was; -/
def held (k : Fin (P.cnt b r)) : sProp 𝕄 :=
  iprop((M.view.loc (c : Thread nD τ) ↦[M.view.set]{shareTok fullShare (P.cnt b r) k} fs)
    ∗ ((Memref.whole main_v81 : Memref sig .tc .hbm S4x16x16x98x384 .f32).view.loc (c : Thread nD τ) ↦[P.piece b r k]{fullShare} g₀))
/-- while it runs: the share of what the transfer does not read; -/
def spare (k : Fin (P.cnt b r)) : sProp 𝕄 :=
  M.view.loc (c : Thread nD τ) ↦[M.view.set \ (srcAt M (P.pw b r (rank P b r k))).view.set]{shareTok fullShare (P.cnt b r) k} fs
/-- what the transfer hands back. -/
def deliv (k : Fin (P.cnt b r)) : sProp 𝕄 :=
  iprop(((Memref.whole main_v81 : Memref sig .tc .hbm S4x16x16x98x384 .f32).view.loc (c : Thread nD τ) ↦[P.piece b r k]{fullShare} G)
    ∗ (M.view.loc (c : Thread nD τ) ↦[(srcAt M (P.pw b r (rank P b r k))).view.set]{shareTok fullShare (P.cnt b r) k} fs))

instance deliv_storable (k : Fin (P.cnt b r)) : Storable (upEmb : UEmb _ 𝕄) (deliv c P b r M fs G k) := by
  unfold deliv; infer_instance

/-- The strip's read shares and the point's patches, dealt to the transfers; -/
theorem held_all :
    iprop(bigSep Finset.univ (fun k : Fin (P.cnt b r) => M.view.loc (c : Thread nD τ) ↦[M.view.set]{shareTok fullShare (P.cnt b r) k} fs)
        ∗ (((c : Thread nD τ).loc main_v81) ↦[Finset.univ.biUnion (P.piece b r)]{fullShare} g₀))
      ⊢ (bigSep (pending 0) (held c P b r M fs g₀) : sProp 𝕄) := by
  rw [Transfers.pending_zero, pointsTo_biUnion _ _ fun k _ k' _ => P.piece_disjoint b r k k']
  unfold held
  exact Entails.of_eq (bigSep_sep _ _ _).symm

/-- and collected from them. -/
theorem deliv_all :
    iprop(bigSep Finset.univ (deliv c P b r M fs G) ∗ bigSep (issued (P.cnt b r)) (spare c P b r M fs))
      ⊢ (iprop(bigSep Finset.univ (fun k : Fin (P.cnt b r) => M.view.loc (c : Thread nD τ) ↦[M.view.set]{shareTok fullShare (P.cnt b r) k} fs)
        ∗ (((c : Thread nD τ).loc main_v81) ↦[Finset.univ.biUnion (P.piece b r)]{fullShare} G)) : sProp 𝕄) := by
  rw [Transfers.issued_all rfl, pointsTo_biUnion _ _ fun k _ k' _ => P.piece_disjoint b r k k']
  refine (Entails.of_eq (bigSep_sep _ _ _).symm).trans ((bigSep_mono fun k _ => ?_).trans (Entails.of_eq (bigSep_sep _ _ _)))
  show iprop(deliv c P b r M fs G k ∗ spare c P b r M fs k) ⊢ iprop(_ ∗ _)
  unfold deliv spare
  iintro ⟨⟨Hd, Hs⟩, Hr⟩
  isplitl [Hs Hr]
  · iapply (pointsTo_split_subset (srcAt_sub M (P.pw b r (rank P b r k)))).2
    isplitl [Hs]; · iexact Hs
    iexact Hr
  iexact Hd

/-- Starting one transfer. -/
theorem issue_step (x : S4x14x16x224x384.Idx → Elt F .f32) (hG : G = P.result x)
    (hf : ∀ y1 y2 y3, M.view.read (Elt F) fs (ix5 (0 : Fin 1) (0 : Fin 1) y1 y2 y3 : S1x1x16x224x384.Idx) = x (ix5 b r y1 y2 y3))
    (k : Fin (P.cnt b r)) {o4 o3 : Fin 5 → ℕ} {h4 h3 hs hd ht} (e4 : o4 = ![0, 0, 0, (P.pw b r (rank P b r k)).val * 16, 0])
    (e3 : o3 = ![b.val, 0, 0, (P.pp b r (rank P b r k)).val, 0])
    {K : PUnit → Prog (TpuEff nD τ sig (Elt F) Λ₀ .tc) PUnit} {Q : PUnit → sProp 𝕄} :
    iprop(held c P b r M fs g₀ k ∗ Batch counters (c : Thread nD τ) cell () units (deliv c P b r M fs G) k.val 0)
      ⊢ iprop((spare c P b r M fs k ∗ Batch counters (c : Thread nD τ) cell () units (deliv c P b r M fs G) (k.val + 1) 0
            -∗ wp frame (wpE (defs₀ (F := F)) Variants.none c none) Set.univ (K ⟨⟩) Q)
          -∗ wp frame (wpE (defs₀ (F := F)) Variants.none c none) Set.univ
              (.op (.enqueueDma (srcW M o4 h4) (.here (dstW (Memref.whole main_v81) o3 h3)) cell hs hd ht) K) Q) := by
  subst e4 e3
  unfold held spare
  iintro ⟨⟨Hs, Hd⟩, HB⟩ HK
  ihave Hs := (pointsTo_split_subset (srcAt_sub M (P.pw b r (rank P b r k)))).1 $$ Hs
  icases Hs with ⟨Hs, Hr⟩
  iapply (Transfers.wp_dmaBatch counters Variants.none (c : Thread nD τ) none () units (units_eq b (P.pp b r (rank P b r k)))
    (dstAt_sub b (P.pp b r (rank P b r k))) k.isLt (Nat.zero_le _)
    (src := srcAt M (P.pw b r (rank P b r k))) (dst := dstAt b (P.pp b r (rank P b r k))) (via := .same) (fs := fs) (fd := g₀)
    (D := deliv c P b r M fs G) (q := shareTok fullShare (P.cnt b r) k) ?_) $$ [Hs Hd HB]
  · unfold deliv
    rw [pointsTo_congr (g := G) fun j hj => (landed b r _ _ fs g₀ x hf j hj).trans
      ((P.result_piece x b r k j hj).symm.trans (congrFun hG j).symm)]
    exact .rfl
  · isplitl [Hs]; · iexact Hs
    isplitl [Hd]; · iexact Hd
    iexact HB
  iintro HB
  iapply HK
  isplitl [Hr]; · iexact Hr
  iexact HB

/-- Before trip `k` of the loop that starts the transfers. -/
def issuing (f56 : main_v56.ty.Contents (Elt F)) (f78 : main_v78.ty.Contents (Elt F)) (q : PosShare TreeShare) (k : ℕ) (_ : Unit) : sProp 𝕄 :=
  iprop(((Memref.whole main_v56 : Memref sig .tc .smem S4x14x14 .i32).view.loc (c : Thread nD τ) ↦{q} f56)
    ∗ ((Memref.whole main_v78 : Memref sig .tc .smem S4x14x14 .i32).view.loc (c : Thread nD τ) ↦{q} f78)
    ∗ Batch counters (c : Thread nD τ) cell () units (deliv c P b r M fs G) k 0
    ∗ bigSep (pending k) (held c P b r M fs g₀)
    ∗ bigSep (issued k) (spare c P b r M fs))

/-- One trip of the loop that starts the transfers. -/
theorem issue_trip (i : grid0.Coords) (hb : image i = b) (hr : row i = r) (f56 : main_v56.ty.Contents (Elt F)) (f78 : main_v78.ty.Contents (Elt F))
    (e56 : ∀ k, f56 (ix3 b r k) = word (P.pw b r k).val) (e78 : ∀ k, f78 (ix3 b r k) = word (P.pp b r k).val)
    (x : S4x14x16x224x384.Idx → Elt F .f32) (hG : G = P.result x)
    (hf : ∀ y1 y2 y3, M.view.read (Elt F) fs (ix5 (0 : Fin 1) (0 : Fin 1) y1 y2 y3 : S1x1x16x224x384.Idx) = x (ix5 b r y1 y2 y3))
    (q : PosShare TreeShare) (hM : M.IsWhole) (hw : k0_chk1 i (word (P.cnt b r))) (k : Fin (k0_t1_loop (word (P.cnt b r))).trips) (acc : Unit) :
    issuing c P b r M fs g₀ G f56 f78 q k.val acc
      ⊢ wp frame (wpE (defs₀ (F := F)) Variants.none c none) Set.univ
          (k0_t1_body i (Memref.whole main_v20) (Memref.isWhole_whole _) (Memref.whole main_v56) (Memref.isWhole_whole _)
            (Memref.whole main_v78) (Memref.isWhole_whole _) M hM (Memref.whole main_v81) (Memref.isWhole_whole _) cc0_scratch0 (word (P.cnt b r)) hw k acc)
          (issuing c P b r M fs g₀ G f56 f78 q (k.val + 1)) := by
  subst hb hr
  have hk : k.val < P.cnt (image i) (row i) := k.isLt.trans_eq (trips_issue (P.cnt_le _ _))
  unfold issuing k0_t1_body
  rw [Transfers.bigSep_pending_step _ _ hk, issued_step _ _ hk]
  simp only [smemLoad, smemLoadElt_bind, Prog.lift, Prog.bind_op, Prog.bind_ret, Prog.pure_eq_ret]
  iintro ⟨H56, H78, HB, ⟨Hheld, Hp⟩, Hi⟩
  iapply (wp_smemLoadElt_named Variants.none (c : Thread nD τ) none Set.univ (m := Memref.whole main_v56) (S := Finset.univ) (q := q) (f := f56)) $$ H56
  iintro H56 %v16 %h16
  rw [read_cols f56 (image i) (row i) ⟨k.val, hk.trans_le (P.cnt_le _ _)⟩ (off_tables i (P.cnt_le _ _) k), e56] at h16
  subst h16
  iapply (wp_assume Variants.none (c : Thread nD τ) none Set.univ (check_src _))
  iapply (wp_smemLoadElt_named Variants.none (c : Thread nD τ) none Set.univ (m := Memref.whole main_v78) (S := Finset.univ) (q := q) (f := f78)) $$ H78
  iintro H78 %v20 %h20
  rw [read_positions f78 (image i) (row i) ⟨k.val, hk.trans_le (P.cnt_le _ _)⟩ (off_tables i (P.cnt_le _ _) k), e78] at h20
  subst h20
  iapply (wp_assume Variants.none (c : Thread nD τ) none Set.univ (check_dst i _))
  iapply (issue_step c P (image i) (row i) M fs g₀ G x hG hf ⟨k.val, hk⟩ (off_src _) (off_dst i _)) $$ [Hheld HB]
  · isplitl [Hheld]; · iexact Hheld
    iexact HB
  iintro ⟨Hr, HB⟩
  rw [wp_ret]
  imodintro
  isplitl [H56]; · iexact H56
  isplitl [H78]; · iexact H78
  isplitl [HB]; · iexact HB
  isplitl [Hp]; · iexact Hp
  isplitl [Hr]; · iexact Hr
  iexact Hi

/-- Before trip `k` of the loop that waits. -/
def waiting (k : ℕ) (_ : Unit) : sProp 𝕄 :=
  iprop(Batch counters (c : Thread nD τ) cell () units (deliv c P b r M fs G) (P.cnt b r) (k * units) ∗ ∃ W, owes (c : Thread nD τ) 0 W)

/-- One trip of the loop that waits. -/
theorem wait_trip (i : grid0.Coords) (hM : M.IsWhole) (hw : k0_chk1 i (word (P.cnt b r))) (k : Fin (k0_t3_loop (word (P.cnt b r))).trips) (acc : Unit) :
    waiting c P b r M fs G k.val acc
      ⊢ wp frame (wpE (defs₀ (F := F)) Variants.none c none) Set.univ
          (k0_t3_body i (Memref.whole main_v20) (Memref.isWhole_whole _) (Memref.whole main_v56) (Memref.isWhole_whole _)
            (Memref.whole main_v78) (Memref.isWhole_whole _) M hM (Memref.whole main_v81) (Memref.isWhole_whole _) cc0_scratch0 (word (P.cnt b r)) hw k acc)
          (waiting c P b r M fs G (k.val + 1)) := by
  have hk : k.val + 1 ≤ P.cnt b r := k.isLt.trans_eq (trips_wait (P.cnt_le _ _))
  unfold waiting k0_t3_body
  simp only [Prog.lift, Prog.bind_op, Prog.bind_ret, Prog.pure_eq_ret]
  iintro ⟨HB, %W, HW⟩
  iapply (Transfers.wp_waitBatchMul counters Variants.none (c : Thread nD τ) none () 1 (N := units) (j := P.cnt b r) (u := k.val * units) ?_ ?_ (W := W)
    (D := deliv c P b r M fs G)) $$ [HB HW]
  · exact (Nat.one_mul _).symm
  · rw [Nat.one_mul, ← Nat.succ_mul, Nat.mul_comm]
    exact Nat.mul_le_mul_left _ hk
  · isplitl [HB]; · iexact HB
    iexact HW
  iintro ⟨HB, HW⟩
  rw [wp_ret, show k.val * units + 1 * units = (k.val + 1) * units by rw [Nat.one_mul, ← Nat.succ_mul]]
  imodintro
  isplitl [HB]; · iexact HB
  iexists _; iexact HW

end Point

/-- A grid point: from the tables, the staged strip, the patches of the point at anything and the semaphore at zero, the
    body runs to the same with the patches at the plan's result. -/
theorem run_body (c : Dev nD) (P : Plan) (i : grid0.Coords) (f20 : main_v20.ty.Contents (Elt F)) (f56 : main_v56.ty.Contents (Elt F))
    (f78 : main_v78.ty.Contents (Elt F)) (hT : P.Tables f20 f56 f78) (q : PosShare TreeShare)
    (M : Memref sig .tc .vmem S1x1x16x224x384 .f32) (hM : M.IsWhole)
    (d : Vec F S1x1x16x224x384 .f32) (x : S4x14x16x224x384.Idx → Elt F .f32)
    (hd : ∀ y1 y2 y3, d (ix5 (0 : Fin 1) (0 : Fin 1) y1 y2 y3 : S1x1x16x224x384.Idx) = x (ix5 (image i) (row i) y1 y2 y3))
    (g₀ : main_v81.ty.Contents (Elt F)) (W : Waits sig Unit) (K : PUnit → sProp 𝕄) :
    iprop((((c : Thread nD τ).loc main_v20) ↦{q} f20) ∗ (((c : Thread nD τ).loc main_v56) ↦{q} f56) ∗ (((c : Thread nD τ).loc main_v78) ↦{q} f78)
        ∗ owns (c : Thread nD τ) M fullShare d
        ∗ (((c : Thread nD τ).loc main_v81) ↦[Finset.univ.biUnion (P.piece (image i) (row i))]{fullShare} g₀)
        ∗ semVal ((c : Thread nD τ), cell) 0 ∗ owes (c : Thread nD τ) 0 W
        ∗ (iprop((((c : Thread nD τ).loc main_v20) ↦{q} f20) ∗ (((c : Thread nD τ).loc main_v56) ↦{q} f56) ∗ (((c : Thread nD τ).loc main_v78) ↦{q} f78)
            ∗ owns (c : Thread nD τ) M fullShare d
            ∗ (((c : Thread nD τ).loc main_v81) ↦[Finset.univ.biUnion (P.piece (image i) (row i))]{fullShare} P.result x)
            ∗ semVal ((c : Thread nD τ), cell) 0 ∗ (∃ W, owes (c : Thread nD τ) 0 W)) -∗ K ⟨⟩))
      ⊢ wp frame (wpE (defs₀ (F := F)) Variants.none c none) Set.univ
          (cc0__body i (Memref.whole main_v20) (Memref.isWhole_whole _) (Memref.whole main_v56) (Memref.isWhole_whole _)
            (Memref.whole main_v78) (Memref.isWhole_whole _) M hM (Memref.whole main_v81) (Memref.isWhole_whole _) cc0_scratch0) K := by
  have hn := P.cnt_le (image i) (row i)
  rw [cc0__body_eq_skeleton]
  unfold cc0__body_skel owns
  simp only [smemLoad, smemLoadElt_bind, Prog.lift, Prog.bind_op, Prog.bind_ret, Prog.pure_eq_ret]
  iintro ⟨H20, H56, H78, ⟨%fs, %hfs, HM⟩, Hout, Hsem, HW, HK⟩
  iapply (wp_smemLoadElt_named Variants.none (c : Thread nD τ) none Set.univ (m := Memref.whole main_v20) (S := Finset.univ) (q := q) (f := f20)) $$ H20
  iintro H20 %v2 %h2
  rw [read_counts f20 (image i) (row i) (k0_off1_eq i), hT.cnt] at h2
  subst h2
  iapply (wp_assume Variants.none (c : Thread nD τ) none Set.univ (check_count i hn))
  imod (Transfers.batch_alloc' (Lvl := ℕ) (countersEmb (U := Pipeline.UD sig nD τ)) (c : Thread nD τ) () units
    (deliv c P (image i) (row i) M fs (P.result x)) (sm := cell) (E := Set.univ)) $$ Hsem with HB
  ihave HM := (Transfers.pointsTo_toks_split fullShare (P.cnt (image i) (row i))) $$ HM
  icases HM with ⟨HM, HT⟩
  ihave HA := (held_all c P (image i) (row i) M fs g₀) $$ [HT Hout]
  · isplitl [HT]; · iexact HT
    iexact Hout
  iapply (Scf.wp_for_bind _ _ _ _ _ _ (k0_t1_ok i _ (check_count i hn)) _ _ (issuing c P (image i) (row i) M fs g₀ (P.result x) f56 f78 q)
    (issue_trip c P (image i) (row i) M fs g₀ (P.result x) i rfl rfl f56 f78 (hT.pw _ _) (hT.pp _ _) x rfl
      (fun y1 y2 y3 => (congrFun hfs _).trans (hd y1 y2 y3)) q hM (check_count i hn))) $$ [H56 H78 HB HA]
  · unfold issuing
    isplitl [H56]; · iexact H56
    isplitl [H78]; · iexact H78
    isplitl [HB]; · iexact HB
    isplitl [HA]; · iexact HA
    rw [Transfers.issued_zero, bigSep_empty]
    iempintro
  iintro %acc HI
  unfold issuing
  icases HI with ⟨H56, H78, HB, -, HS⟩
  rw [show Scf.trips (k0_t1_loop (word (P.cnt (image i) (row i)))).lb (k0_t1_loop (word (P.cnt (image i) (row i)))).ub
      (k0_t1_loop (word (P.cnt (image i) (row i)))).st = P.cnt (image i) (row i) from trips_issue hn]
  iapply (Scf.wp_for0_bind _ _ _ _ _ _ (k0_t2_ok i _ (check_count i hn)) _ (trips_issue_rest hn) _ _ _ .rfl)
  iapply (Scf.wp_for_bind _ _ _ _ _ _ (k0_t3_ok i _ (check_count i hn)) _ _ (waiting c P (image i) (row i) M fs (P.result x))
    (wait_trip c P (image i) (row i) M fs (P.result x) i hM (check_count i hn))) $$ [HB HW]
  · unfold waiting
    rw [Nat.zero_mul]
    isplitl [HB]; · iexact HB
    iexists _; iexact HW
  iintro %acc' HI
  unfold waiting
  rw [show Scf.trips (k0_t3_loop (word (P.cnt (image i) (row i)))).lb (k0_t3_loop (word (P.cnt (image i) (row i)))).ub
      (k0_t3_loop (word (P.cnt (image i) (row i)))).st = P.cnt (image i) (row i) from trips_wait hn]
  icases HI with ⟨HB, HW⟩
  iapply (Scf.wp_for0_bind _ _ _ _ _ _ (k0_t4_ok i _ (check_count i hn)) _ (trips_wait_rest hn) _ _ _ .rfl)
  rw [wp_ret, Nat.mul_comm]
  imod (Transfers.batch_collect' counters (c : Thread nD τ) units_pos) $$ HB with ⟨HD, Hsem⟩
  imodintro
  ihave HA := (deliv_all c P (image i) (row i) M fs (P.result x)) $$ [HD HS]
  · isplitl [HD]; · iexact HD
    iexact HS
  icases HA with ⟨HT, Hout⟩
  iapply HK
  isplitl [H20]; · iexact H20
  isplitl [H56]; · iexact H56
  isplitl [H78]; · iexact H78
  isplitl [HM HT]
  · iexists fs
    isplitr; · ipureintro; exact hfs
    iapply (Transfers.pointsTo_toks_join fullShare (P.cnt (image i) (row i)))
    isplitl [HM]; · iexact HM
    iexact HT
  isplitl [Hout]; · iexact Hout
  isplitl [Hsem]; · iexact Hsem
  iexact HW

end Cert.KernelIdeal.Patch

end
-- ==== Proof.Region.lean ====
/-
  The whole grid. The array of patches is split in two as the grid advances: the patches written so far, which hold the
  plan's result, and the rest, which hold what they held; a grid point moves its own patches from the second part to the
  first. The tables are read only and the semaphore is at zero between points.
-/
module

public import proofs.«01_k».proof.Proof.Body
public import proofs.«01_k».proof.Proof.Gen.KernelIdeal.Launch
public import Idealize.ShloMosaic.Lib.Pipeline.FrameSuffixV

@[expose] public section

noncomputable section

namespace Cert.KernelIdeal.Patch

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A grid point's number. -/
theorem point_eq (t : Fin grid0.N) : t.val = (image (grid0.coords t)).val * 14 + (row (grid0.coords t)).val :=
  (show ∀ t : Fin grid0.N, t.val = (image (grid0.coords t)).val * 14 + (row (grid0.coords t)).val by decide +kernel) t

/-! ## The pieces of the launch -/

/-- The semaphore the body's transfers complete on. -/
abbrev osem0 : Fin 1 → SemLoc sig := fun _ => cell
theorem ownSemFacts0 : Pipeline.OwnSemFacts spec0 osem0 := by decide
theorem ownSems0_cell (c : Dev nD) :
    (Pipeline.ownSems0 (Ix := Unit) (Name := ℕ) (U := Pipeline.UD sig nD τ) (Lvl := ℕ) (Val := Elt F) (τ := τ) osem0 c : sProp 𝕄)
      = semVal ((c : Thread nD τ), cell) 0 := by
  rw [Pipeline.ownSems0_eq_of_list c osem0 [0] (by decide) (by decide)]; rfl

/-- The one buffer outside the pipeline that the body writes. -/
def written : Finset (Ref sig .tc) := {main_v81}

variable (V : Dev nD → Valuation τ sig (Elt F)) (P : Plan)

/-- The tables' contents. -/
def tables : pre0.Contents (Elt F) := fun k => V 0 (Proc.devRef .tc (pre0.ref k))
abbrev adm : (p : Fin 1) → (pcfgs (F := F) p).Adm := fun _ => ⟨tables V, trivial⟩

/-- The strips the patches are cut from, and the array of patches before the grid. -/
def strips (c : Dev nD) : S4x14x16x224x384.Idx → Elt F .f32 := V c (Proc.devRef .tc main_v80)
@[inherit_doc strips] def before (c : Dev nD) : S4x16x16x98x384.Idx → Elt F .f32 := V c (Proc.devRef .tc main_v81)

theorem tables_eq (c : Dev nD) (q : PosShare TreeShare) :
    (Pipeline.prefHeld (Ix := Unit) (Name := ℕ) (U := Pipeline.UD sig nD τ) (Lvl := ℕ) pre0 c (fun _ => q) (tables V) : sProp 𝕄)
      = iprop((((c : Thread nD τ).loc main_v20) ↦{q} (V 0 (Proc.devRef .tc main_v20) : main_v20.ty.Contents (Elt F)))
        ∗ (((c : Thread nD τ).loc main_v56) ↦{q} (V 0 (Proc.devRef .tc main_v56) : main_v56.ty.Contents (Elt F)))
        ∗ (((c : Thread nD τ).loc main_v78) ↦{q} (V 0 (Proc.devRef .tc main_v78) : main_v78.ty.Contents (Elt F)))) := by
  unfold Pipeline.prefHeld
  rw [BI.bigSep_eq_bigSepL_of_eq [0, 1, 2] (by decide) (by decide)]; rfl

/-- Between grid points. -/
def between (c : Dev nD) (t : ℕ) : sProp 𝕄 :=
  iprop((((c : Thread nD τ).loc main_v81) ↦[P.done t]{fullShare} (P.result (strips V c) : main_v81.ty.Contents (Elt F)))
    ∗ (((c : Thread nD τ).loc main_v81) ↦[Finset.univ \ P.done t]{fullShare} (before V c : main_v81.ty.Contents (Elt F)))
    ∗ semVal ((c : Thread nD τ), cell) 0
    ∗ Pipeline.prefHeld (Ix := Unit) (Name := ℕ) (U := Pipeline.UD sig nD τ) (Lvl := ℕ) pre0 c (fun _ => fullShare.right) (tables V))

/-- The strip of one grid point. -/
def strip (c : Dev nD) (t : Fin grid0.N) : S1x1x16x224x384.Idx → Elt F .f32 := fun y =>
  strips V c (ix5 (image (grid0.coords t)) (row (grid0.coords t)) (y 2) (y 3) (y 4))

def dats (p : Fin 1) (c : Dev nD) : Dat τ (Elt F) Unit ℕ (Pipeline.UD sig nD τ) ℕ (Pipeline.pin pcfgs (adm V) p) c where
  A w := V c (Proc.devRef .tc (Pipeline.arrRef spec0 w))
  after w t := match w with
    | ⟨0, _⟩ => strip V c t
    | ⟨_ + 1, h⟩ => absurd h (Nat.not_lt.2 (Nat.le_add_left _ _))
  Φ t := between V P c t.val
  q _ := fullShare
  owed _ := 0

/-- Where an index of a grid point's strip lies in the array of strips. -/
theorem emb_strip (i : grid0.Coords) (y : S1x1x16x224x384.Idx) (h) :
    (Rect.block (s := S4x14x16x224x384) S1x1x16x224x384.size (cc0_transform_0 i) h).emb y
      = (ix5 (image i) (row i) (y 2) (y 3) (y 4) : S4x14x16x224x384.Idx) := by
  funext a
  apply Fin.ext
  rw [Rect.emb_apply]
  have hb : (image i).val < 4 := (image i).isLt
  have hr : (row i).val < 14 := (row i).isLt
  have h0 : (y 0).val < 1 := (y 0).isLt
  have h1 : (y 1).val < 1 := (y 1).isLt
  match a with
  | ⟨0, _⟩ =>
    show (word (image i).val).toNat * 1 + 1 * (y 0).val = (image i).val
    rw [toNat_word (by omega)]; omega
  | ⟨1, _⟩ =>
    show (word (row i).val).toNat * 1 + 1 * (y 1).val = (row i).val
    rw [toNat_word (by omega)]; omega
  | ⟨2, _⟩ => show 0 * 16 + 1 * (y 2).val = (y 2).val; omega
  | ⟨3, _⟩ => show 0 * 224 + 1 * (y 3).val = (y 3).val; omega
  | ⟨4, _⟩ => show 0 * 384 + 1 * (y 4).val = (y 4).val; omega

theorem block_eq (c : Dev nD) (t : Fin grid0.N) : (dats V P 0 c).blockOf 0 t = strip V c t :=
  funext fun y => congrArg (strips V c) (emb_strip (grid0.coords t) y (Facts₀.hinb0_0 _))

theorem staged_eq (c : Dev nD) (t : Fin grid0.N) (d) : (dats V P 0 c).before 0 t d = strip V c t :=
  ((dats V P 0 c).before_in_eq_fetched 0 rfl (fun _ => rfl) (fun _ _ _ => rfl) (fun t => (block_eq V P c t).symm) t d).trans (block_eq V P c t)

/-- The unwritten part, before and after a grid point. -/
theorem unwritten_succ (t : Fin grid0.N) :
    Finset.univ \ P.done t.val = Finset.univ.biUnion (P.piece (image (grid0.coords t)) (row (grid0.coords t)))
        ∪ (Finset.univ \ P.done (t.val + 1))
      ∧ Disjoint (Finset.univ.biUnion (P.piece (image (grid0.coords t)) (row (grid0.coords t)))) (Finset.univ \ P.done (t.val + 1)) := by
  rw [point_eq t, P.done_succ]
  have hd := P.done_disjoint (image (grid0.coords t)) (row (grid0.coords t))
  constructor
  · ext j
    have hj : j ∈ Finset.univ.biUnion (P.piece (image (grid0.coords t)) (row (grid0.coords t))) → j ∉ P.done _ := fun h h' =>
      Finset.disjoint_left.1 hd h' h
    simp only [Finset.mem_sdiff, Finset.mem_univ, _root_.true_and, Finset.mem_union]
    tauto
  · rw [Finset.disjoint_left]
    intro j hj hn
    exact (Finset.mem_sdiff.1 hn).2 (Finset.mem_union_right _ hj)

theorem written_succ (t : Fin grid0.N) :
    P.done (t.val + 1) = P.done t.val ∪ Finset.univ.biUnion (P.piece (image (grid0.coords t)) (row (grid0.coords t)))
      ∧ Disjoint (P.done t.val) (Finset.univ.biUnion (P.piece (image (grid0.coords t)) (row (grid0.coords t)))) := by
  rw [point_eq t]
  exact ⟨P.done_succ _ _, P.done_disjoint _ _⟩

/-- The staging buffer of a grid point. -/
abbrev stage (t : Fin grid0.N) : Memref sig .tc .vmem S1x1x16x224x384 .f32 := spec0_0.stage ((cfg0 (F := F) (adm V 0)).slots t 0)

/-- One grid point, in the launch's terms. -/
theorem point_run (hT : P.Tables (V 0 (Proc.devRef .tc main_v20)) (V 0 (Proc.devRef .tc main_v56)) (V 0 (Proc.devRef .tc main_v78)))
    (c : Dev nD) (t : Fin grid0.N) (hM) :
    iprop((dats V P 0 c).Φ t.castSucc ∗ (dats V P 0 c).owesAt () t.castSucc
        ∗ (∃ d, owns (c : Thread nD τ) (stage V t) fullShare ((dats V P 0 c).before 0 t d)))
      ⊢ wp frame (wpE (defs₀ (F := F)) Variants.none c none) Set.univ
          (cc0__body (grid0.coords t) (Memref.whole main_v20) (Memref.isWhole_whole _) (Memref.whole main_v56) (Memref.isWhole_whole _)
            (Memref.whole main_v78) (Memref.isWhole_whole _) (stage V t) hM (Memref.whole main_v81) (Memref.isWhole_whole _) cc0_scratch0)
          (fun _ => iprop((dats V P 0 c).Φ t.succ ∗ (dats V P 0 c).owesAt () t.succ
            ∗ owns (c : Thread nD τ) (stage V t) fullShare ((dats V P 0 c).after 0 t))) := by
  rw [show (dats V P 0 c).Φ t.castSucc = between V P c t.val from rfl, show (dats V P 0 c).Φ t.succ = between V P c (t.val + 1) from rfl,
    show (dats V P 0 c).after 0 t = strip V c t from rfl]
  simp only [staged_eq]
  unfold between Dat.owesAt Pipeline.owesWithin
  rw [tables_eq, show (dats V P 0 c).owed t.castSucc = 0 from rfl, show (dats V P 0 c).owed t.succ = 0 from rfl]
  iintro ⟨⟨Hd, Hu, Hsem, H20, H56, H78⟩, ⟨%W, -, HW⟩, ⟨%d, HM⟩⟩
  ihave Hu := (Entails.of_eq (congrArg (fun S => iprop(((c : Thread nD τ).loc main_v81) ↦[S]{fullShare} (before V c : main_v81.ty.Contents (Elt F))))
    (unwritten_succ P t).1)) $$ Hu
  ihave Hu := (pointsTo_union (unwritten_succ P t).2).1 $$ Hu
  icases Hu with ⟨Hp, Hu⟩
  iapply (run_body c P (grid0.coords t) _ _ _ hT _ (stage V t) hM (strip V c t) (strips V c) (fun _ _ _ => rfl) (before V c) W _)
  isplitl [H20]; · iexact H20
  isplitl [H56]; · iexact H56
  isplitl [H78]; · iexact H78
  isplitl [HM]; · iexact HM
  isplitl [Hp]; · iexact Hp
  isplitl [Hsem]; · iexact Hsem
  isplitl [HW]; · iexact HW
  iintro ⟨H20, H56, H78, HM, Hp, Hsem, ⟨%W', HW⟩⟩
  isplitl [Hd Hu Hp Hsem H20 H56 H78]
  · isplitl [Hd Hp]
    · iapply (Entails.of_eq (congrArg (fun S => iprop(((c : Thread nD τ).loc main_v81) ↦[S]{fullShare} (P.result (strips V c) : main_v81.ty.Contents (Elt F))))
        (written_succ P t).1).symm)
      iapply (pointsTo_union (written_succ P t).2).2
      isplitl [Hd]; · iexact Hd
      iexact Hp
    isplitl [Hu]; · iexact Hu
    isplitl [Hsem]; · iexact Hsem
    isplitl [H20]; · iexact H20
    isplitl [H56]; · iexact H56
    iexact H78
  isplitl [HW]
  · iexists W'; isplitr; · ipureintro; exact fun _ _ => Or.inl trivial
    iexact HW
  iexact HM

theorem defs₀_row (t : Fin grid0.N) :
    defs₀ (F := F) .tc (cfg0 (adm V 0)).body ((cfg0 (adm V 0)).bodyArgs t ((cfg0 (adm V 0)).slots t))
      = cc0__body (grid0.coords t) (Memref.whole main_v20) (Memref.isWhole_whole _) (Memref.whole main_v56) (Memref.isWhole_whole _)
            (Memref.whole main_v78) (Memref.isWhole_whole _) (stage V t) (Facts₀.hstage0_0 (((cfg0 (F := F) (adm V 0)).slots t 0).cast Facts₀.nbuf0_0))
            (Memref.whole main_v81) (Memref.isWhole_whole _) cc0_scratch0 := by
  unfold defs₀; rw [Defs.onTc_tc]

theorem body_obligation (hT : P.Tables (V 0 (Proc.devRef .tc main_v20)) (V 0 (Proc.devRef .tc main_v56)) (V 0 (Proc.devRef .tc main_v78)))
    (c : Dev nD) : BodyObligation (dats V P 0 c) (defs₀ (F := F)) Variants.none () Set.univ := fun t => by
  rw [bigSep_W0, bigSep_W0, defs₀_row]
  exact triple_restated (point_run V P hT c t _) rfl .rfl fun _ => .rfl

end Cert.KernelIdeal.Patch

end
-- ==== Proof.Run.lean ====
/-
  The program's run, for tables that say what a plan says: the host operations before the grid, the grid, and the reshape
  after it. The result is the plan's patch array read through that reshape, the argument is unchanged and every semaphore
  is at zero.
-/
module

public import proofs.«01_k».proof.Proof.Region
public import Idealize.ShloMosaic.Lib.Pipeline.FrameSuffix
public import Idealize.ShloMosaic.Lib.StableHlo.RunRead

@[expose] public section

set_option maxRecDepth 5452

noncomputable section

namespace Cert.KernelIdeal.Patch

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (g : Dev nD → PrngReg)

/-- The host operations before the grid, stretch by stretch. -/
abbrev stretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17]

/-- What the buffers hold after them. -/
def entry (c : Dev nD) : Valuation τ sig (Elt F) := StableHlo.after (List.flatten stretches) (fun b => m (c, b))

theorem stretches_fresh : (stretches (F := F)).Forall fun ops => ops.Forall fun op => op.fresh = ∅ := by
  have fresh {ops : List (HloOp τ sig (Elt F))} (h : ops.map HloOp.fresh = ops.map fun _ => ∅) := StableHlo.forall_fresh_of_map h
  exact ⟨fresh (ops := hostOps0) rfl, fresh (ops := hostOps0_1) rfl, fresh (ops := hostOps0_2) rfl, fresh (ops := hostOps0_3) rfl, fresh (ops := hostOps0_4) rfl, fresh (ops := hostOps0_5) rfl, fresh (ops := hostOps0_6) rfl, fresh (ops := hostOps0_7) rfl, fresh (ops := hostOps0_8) rfl, fresh (ops := hostOps0_9) rfl, fresh (ops := hostOps0_10) rfl, fresh (ops := hostOps0_11) rfl, fresh (ops := hostOps0_12) rfl, fresh (ops := hostOps0_13) rfl, fresh (ops := hostOps0_14) rfl, fresh (ops := hostOps0_15) rfl, fresh (ops := hostOps0_16) rfl, fresh (ops := hostOps0_17) rfl⟩

theorem hmain (𝒱₀ : Variants) : Pipeline.HMainPK (Ix := Unit) (Name := ℕ) (U := Pipeline.UD sig nD τ) (Lvl := ℕ) pcfgs 0 defs₀ 𝒱₀ m (main (F := F))
    (fun c b => entry m c (Proc.devRef .tc b)) (fun _ => Pipeline.chain ([hostOps1].map StableHlo.seq)) :=
  Pipeline.hmainP_around pcfgs 0 defs₀ 𝒱₀ m main stretches [hostOps1]
    (by
      exact ⟨hostOps0_sub, hostOps0_1_sub, hostOps0_2_sub, hostOps0_3_sub, hostOps0_4_sub, hostOps0_5_sub, hostOps0_6_sub, hostOps0_7_sub,
        hostOps0_8_sub, hostOps0_9_sub, hostOps0_10_sub, hostOps0_11_sub, hostOps0_12_sub, hostOps0_13_sub, hostOps0_14_sub,
        hostOps0_15_sub, hostOps0_16_sub, hostOps0_17_sub⟩)
    stretches_fresh main_chain

theorem after_sub : ∀ ops ∈ ([hostOps1] : List (List (HloOp τ sig (Elt F)))), ∀ op ∈ ops, op.bufs ⊆ Pipeline.tailRefs sig pre0 spec0 := by
  intro ops hops op hop
  simp only [List.mem_cons, List.mem_nil_iff, _root_.or_false] at hops
  subst hops
  refine Pipeline.sub_tailRefs pre0 spec0 op ((List.forall_iff_forall_mem.mp hostOps1_sub) op hop) ?_
  simp only [hostOps1, List.mem_cons, List.mem_nil_iff, _root_.or_false] at hop
  subst hop
  intro j
  fin_cases j <;> simp only [StableHlo.unary_bufs, StableHlo.reshape, Finset.mem_insert, Finset.mem_singleton, not_or] <;> and_intros <;> exact StableHlo.devRef_ne_of_ne (by decide)

theorem after_fresh : ∀ ops ∈ ([hostOps1] : List (List (HloOp τ sig (Elt F)))), ∀ op ∈ ops, op.fresh = ∅ := by
  intro ops hops op hop
  simp only [List.mem_cons, List.mem_nil_iff, _root_.or_false] at hops
  subst hops
  simp only [hostOps1, List.mem_cons, List.mem_nil_iff, _root_.or_false] at hop
  subst hop
  rfl

theorem after_keeps : ∀ ops ∈ ([hostOps1] : List (List (HloOp τ sig (Elt F)))), ∀ op ∈ ops, ∀ w,
    Proc.devRef .tc (Pipeline.arrRef spec0 w) ∉ op.writes := by
  intro ops hops op hop w
  simp only [List.mem_cons, List.mem_nil_iff, _root_.or_false] at hops
  subst hops
  simp only [hostOps1, List.mem_cons, List.mem_nil_iff, _root_.or_false] at hop
  subst hop
  fin_cases w
  show Proc.devRef .tc main_v80 ∉ ({Proc.devRef .tc main_v82} : Finset (DevRef τ sig))
  rw [Finset.mem_singleton]
  exact StableHlo.devRef_ne_of_ne (by decide)

/-- What the grid leaves in the buffer it writes. -/
def left (P : Plan) (V : Dev nD → Valuation τ sig (Elt F)) (c : Dev nD) (b : Ref sig .tc) : Buf (Elt F) ((c.tc : Thread nD τ).loc b) :=
  if h : b = main_v81 then h ▸ (P.result (strips V c) : main_v81.ty.Contents (Elt F)) else V c (Proc.devRef .tc b)

theorem left_written (P : Plan) (V : Dev nD → Valuation τ sig (Elt F)) (c : Dev nD) :
    left P V c main_v81 = (P.result (strips V c) : main_v81.ty.Contents (Elt F)) := dif_pos rfl

theorem written_sub : written ⊆ Pipeline.restRefsP sig pre0 spec0 \ ∅ := by
  intro b hb
  rw [written, Finset.mem_singleton] at hb
  subst hb
  rw [Finset.sdiff_empty, Finset.mem_sdiff]
  exact ⟨Pipeline.mem_restRefs_of main_v81 (by decide) (by decide), by decide⟩

theorem enter (P : Plan) (V : Dev nD → Valuation τ sig (Elt F)) (c : Dev nD) :
    iprop(Pipeline.ΦDRV osem0 spec0 ∅ written (fun c b => V c (Proc.devRef .tc b)) (fun c b => V c (Proc.devRef .tc b)) c
        ∗ Pipeline.ΦT pre0 (tables V) c) ⊢ (between V P c 0 : sProp 𝕄) := by
  unfold Pipeline.ΦDRV written between
  rw [ownSems0_cell, bigSep_singleton, P.done_zero, Finset.sdiff_empty]
  iintro ⟨⟨-, Hs, -, Hr⟩, Ht⟩
  isplitr
  · rw [pointsTo_empty]; iempintro
  isplitl [Hr]; · iexact Hr
  isplitl [Hs]; · iexact Hs
  iexact Ht

theorem leave (P : Plan) (V : Dev nD → Valuation τ sig (Elt F)) (c : Dev nD) :
    (between V P c 56 : sProp 𝕄)
      ⊢ Pipeline.ΦDRV osem0 spec0 ∅ written (fun c b => V c (Proc.devRef .tc b)) (left P V) c := by
  unfold Pipeline.ΦDRV written between
  rw [ownSems0_cell, bigSep_singleton, P.done_all, scopedRest0_eq, bigSep_empty, left_written]
  iintro ⟨Hr, -, Hs, -⟩
  isplitr; · iempintro
  isplitl [Hs]; · iexact Hs
  isplitr; · iempintro
  iexact Hr

/-- No host operation before the grid writes the argument. -/
theorem entry_arg (c : Dev nD) : entry m c (Proc.devRef .tc main_arg0) = m ((c.tc : Thread nD τ).loc main_arg0) := by
  unfold entry stretches
  simp only [List.flatten_cons, List.flatten_nil, List.append_nil]
  after_reads_simp

/-- The reshape after the grid. -/
theorem reshaped (V : Valuation τ sig (Elt F)) :
    StableHlo.after hostOps1 V (Proc.devRef .tc main_v82)
      = (shapeCast S4x25088x384 (V (Proc.devRef .tc main_v81) : S4x16x16x98x384.Idx → Elt F .f32) shapeCasts_S4x16x16x98x384_S4x25088x384 : S4x25088x384.Idx → Elt F .f32) := by
  after_reads_simp
  rfl
theorem reshaped_arg (V : Valuation τ sig (Elt F)) :
    StableHlo.after hostOps1 V (Proc.devRef .tc main_arg0) = V (Proc.devRef .tc main_arg0) := by
  after_reads_simp

theorem arg_rest : main_arg0 ∈ Pipeline.restRefsP sig pre0 spec0 :=
  Finset.mem_sdiff.mpr ⟨Pipeline.mem_restRefs_of main_arg0 (by decide) (by decide), by decide⟩
theorem result_rest : main_v82 ∈ Pipeline.restRefsP sig pre0 spec0 :=
  Finset.mem_sdiff.mpr ⟨Pipeline.mem_restRefs_of main_v82 (by decide) (by decide), by decide⟩

/-- The buffers after the grid. -/
def exited (P : Plan) (c : Dev nD) (A : (w : Fin 1) → Buf (Elt F) ((spec0 w).arr.view.loc (c.tc : Thread nD τ))) : Valuation τ sig (Elt F) :=
  Pipeline.withArrays spec0 c (Pipeline.withR (entry m c) written c (left P (entry m) c)) A

theorem exited_result (P : Plan) (c : Dev nD) (A) :
    StableHlo.after hostOps1 (exited m P c A) (Proc.devRef .tc main_v82)
      = (shapeCast S4x25088x384 (P.result (strips (entry m) c)) shapeCasts_S4x16x16x98x384_S4x25088x384 : S4x25088x384.Idx → Elt F .f32) := by
  rw [reshaped, exited, Pipeline.withArrays_of_ne spec0 c _ A main_v81 (by decide), Pipeline.withR_of_mem _ written _ _ main_v81 (Finset.mem_singleton_self _), left_written]

theorem exited_arg (P : Plan) (c : Dev nD) (A) :
    StableHlo.after hostOps1 (exited m P c A) (Proc.devRef .tc main_arg0) = m ((c.tc : Thread nD τ).loc main_arg0) := by
  rw [reshaped_arg, exited, Pipeline.withArrays_of_ne spec0 c _ A main_arg0 (by decide),
    Pipeline.withR_of_not_mem _ _ _ _ _ (by decide), entry_arg]

set_option backward.isDefEq.respectTransparency.types false in
set_option maxHeartbeats 1000000 in
theorem run (P : Plan) (hT : P.Tables (entry m 0 (Proc.devRef .tc main_v20)) (entry m 0 (Proc.devRef .tc main_v56)) (entry m 0 (Proc.devRef .tc main_v78))) :
    θ_run defs (onTc (τ := τ) (main (F := F))) ⟨m, fun _ => 0, g⟩ (fun r => (∀ c : Dev nD,
      r.2.mem ((c.tc : Thread nD τ).loc main_v82)
          = (shapeCast S4x25088x384 (P.result (strips (entry m) c)) shapeCasts_S4x16x16x98x384_S4x25088x384 : S4x25088x384.Idx → Elt F .f32)
      ∧ r.2.mem ((c.tc : Thread nD τ).loc main_arg0) = m ((c.tc : Thread nD τ).loc main_arg0)) ∧ r.2.sem = fun _ => 0) := by
  refine Pipeline.θ_run_frameP_dmaR_aroundV (Q' := _) pcfgs (adm (entry m)) (dats (entry m) P) (0 : Fin 1) launch0 osem0 defs₀ Variants.none
    ownSemFacts0 ∅ written (Finset.empty_subset _) written_sub m g main
    (hbody := fun c => (body_obligation (entry m) P hT c).loose) (hshare := fun c => (dats (entry m) P 0 c).share_full fun _ => rfl)
    (howed := fun _ _ => rfl) (V₀ := entry m) (opss := [hostOps1]) (hsub := after_sub) (hfresh := after_fresh) (hkeep := after_keeps)
    (G := left P (entry m)) (hmain := hmain m Variants.none) (hA := fun _ _ => rfl)
    (hpf := fun c k => by rw [Subsingleton.elim c 0]; rfl)
    (hin := fun c => enter P (entry m) c) (hout := ?_) (hQ' := ?_)
  · intro c
    show between (entry m) P c grid0.N ⊢ _
    rw [N_0]
    exact leave P (entry m) c
  · intro r h
    refine ⟨fun c => ⟨?_, ?_⟩, h.2⟩
    · exact ((h.1 c).2 main_v82 result_rest).trans (exited_result m P c _)
    · exact ((h.1 c).2 main_arg0 arg_rest).trans (exited_arg m P c _)

end Cert.KernelIdeal.Patch

end
-- ==== Proof.Along.lean ====
/-
  Reads at an index of the host operations that build the tables: a `take_along_axis` of a row, a sum along the last axis,
  a running sum along a row, and a scatter by triples of index words.
-/
module

public import proofs.«01_k».proof.Proof.Gen.KernelIdeal.Launch
public import Idealize.ShloMosaic.Lib.Routing.OpsSet
public import Idealize.ShloMosaic.Lib.Routing.OpsPair
public import Idealize.ShloMosaic.Lib.Routing.OpsOne
public import Idealize.ShloMosaic.Lib.SortFacts
public import Idealize.ShloMosaic.Lib.Pipeline.Value

@[expose] public section

noncomputable section

namespace Cert.KernelIdeal.Patch

open Cert.KernelIdeal Cert.KernelIdeal.Gen
open Idealize.ShloMosaic Idealize.ShloMosaic.ValueIdx

/-! ## Words -/

/-- A small natural's word, read back and read signed. -/
theorem toNat_small {n : ℕ} (h : n < 2 ^ 31) : (BitVec.ofNat 32 n).toNat = n := by
  rw [BitVec.toNat_ofNat]
  omega
theorem toInt_small {n : ℕ} (h : n < 2 ^ 31) : (BitVec.ofNat 32 n).toInt = n := by
  rw [BitVec.toInt_eq_toNat_cond, toNat_small h]
  split <;> omega

/-- Two small naturals with one word are one. -/
theorem word_inj {a b : ℕ} (ha : a < 2 ^ 31) (hb : b < 2 ^ 31) (h : BitVec.ofNat 32 a = BitVec.ofNat 32 b) : a = b := by
  rw [← toNat_small ha, ← toNat_small hb, h]

/-! ## Taking along the second axis -/

/-- Rows of `N` words, one index word per result: row `b` of the operand at the index. -/
abbrev alongDims (N : ℕ) (wf : GatherDims.WF ⟨2, ![4, N]⟩ S4x98x1 S4x98 [] [1] [0] [1] [0] 2 ![1, 1]) :
    GatherDims ⟨2, ![4, N]⟩ S4x98x1 S4x98 where
  offsetDims := []
  collapsedSliceDims := [1]
  operandBatchingDims := [0]
  startIndicesBatchingDims := [0]
  startIndexMap := [1]
  indexVectorDim := 2
  sliceSizes := ![1, 1]
  wf := wf

theorem gather_along {α : Type} {N : ℕ} (hN : N < 2 ^ 31) (wf : GatherDims.WF ⟨2, ![4, N]⟩ S4x98x1 S4x98 [] [1] [0] [1] [0] 2 ![1, 1])
    (x : (⟨2, ![4, N]⟩ : Shape).Idx → α) (idx : IVec S4x98x1 32) (b : Fin 4) (p : Fin 98) (q : Fin N)
    (h : idx (ix3 b p 0) = BitVec.ofNat 32 q.val) : Host.gather (alongDims N wf) x idx (ix2 b p) = x (ix2 b q) := by
  have hq := q.isLt
  unfold Host.gather
  refine congrArg x (funext fun a => Fin.ext ?_)
  match a with
  | ⟨0, _⟩ =>
    show (alongDims N wf).start (ix2 b p) idx 0 + (alongDims N wf).batchCoord (ix2 b p) 0 + (alongDims N wf).offCoord (ix2 b p) 0 = b.val
    rw [GatherDims.start_batching _ _ _ _ (List.mem_singleton.mpr rfl),
      GatherDims.offCoord_eq_zero _ _ _ (fun h => ((GatherDims.mem_sKept _ _).mp h).2 (List.mem_singleton.mpr rfl))]
    show 0 + b.val + 0 = b.val
    omega
  | ⟨1, _⟩ =>
    show (alongDims N wf).start (ix2 b p) idx 1 + (alongDims N wf).batchCoord (ix2 b p) 1 + (alongDims N wf).offCoord (ix2 b p) 1 = q.val
    rw [GatherDims.batchCoord_eq_zero _ _ _ (fun h => by simp at h),
      GatherDims.offCoord_eq_zero _ _ _ (fun h => ((GatherDims.mem_sKept _ _).mp h).1 (List.mem_singleton.mpr rfl))]
    have e : (alongDims N wf).siIdx (ix2 b p) ⟨0, Nat.one_pos⟩ = ix3 b p 0 := by
      funext c
      match c with
      | ⟨0, _⟩ => rfl
      | ⟨1, _⟩ => rfl
      | ⟨2, _⟩ => rfl
    show min (idx ((alongDims N wf).siIdx (ix2 b p) ⟨0, Nat.one_pos⟩)).toInt.toNat (N - 1) + 0 + 0 = q.val
    rw [e, h, toInt_small (by omega)]
    omega

/-- The index words made not negative: `n` added to a negative one. -/
def wrapped {s : Shape} (n : BitVec 32) (i : IVec s 32) : IVec s 32 := select (cmpi .slt i fun _ => 0#32) (addi i fun _ => n) i

theorem wrapped_apply {s : Shape} (n : BitVec 32) (i : IVec s 32) (j : s.Idx) {a : ℕ} (ha : a < 2 ^ 31) (h : i j = BitVec.ofNat 32 a) :
    wrapped n i j = BitVec.ofNat 32 a := by
  show Scalar.select (IntOp.cmpi .slt (i j) 0#32) (IntOp.addi (i j) n) (i j) = _
  rw [h]
  exact Routing.wrap_of_lt _ _ (by rw [toNat_small ha]; omega)

/-- `take_along_axis` of rows of `N` words: the wrapped index's word, or a filler for an index outside `0 … last`. -/
def takeAlong {N : ℕ} (d : GatherDims ⟨2, ![4, N]⟩ S4x98x1 S4x98) (n last : BitVec 32) (x : IVec ⟨2, ![4, N]⟩ 32) (i : IVec S4x98 32) : IVec S4x98 32 :=
  select
    (Host.reduce IntOp.andi
      (andi (cmpi .sge (shapeCast S4x98x1 (wrapped n i) shapeCasts_S4x98_S4x98x1) fun _ => 0#32)
        (cmpi .sle (shapeCast S4x98x1 (wrapped n i) shapeCasts_S4x98_S4x98x1) fun _ => last))
      (constantI S_ 1 1#1) reducesTo_S4x98x1_S4x98_d2 h_S_)
    (Host.gather d x (shapeCast S4x98x1 (wrapped n i) shapeCasts_S4x98_S4x98x1)) (fun _ => 2147483648#32)

/-- A fold of bits by «and» over one position. -/
theorem fold_one (x : Fin 1 → BitVec 1) (h : x 0 = 1#1) : Finset.fold IntOp.andi 1#1 x Finset.univ = 1#1 := by
  rw [show (Finset.univ : Finset (Fin 1)) = {0} from rfl, Finset.fold_singleton, h]
  rfl

theorem reduce_one (x : IVec S4x98x1 1) (b : Fin 4) (p : Fin 98) (h : x (ix3 b p 0) = 1#1) :
    Host.reduce IntOp.andi x (constantI S_ 1 1#1) reducesTo_S4x98x1_S4x98_d2 h_S_ (ix2 b p) = 1#1 := by
  rw [Host.reduce_eq_fold_single IntOp.andi x _ reducesTo_S4x98x1_S4x98_d2 (by decide) h_S_]
  refine fold_one _ (Eq.trans (congrArg x (funext fun c => ?_)) h)
  match c with
  | ⟨0, _⟩ => rfl
  | ⟨1, _⟩ => rfl
  | ⟨2, _⟩ => rfl

/-- An index in range passes both of the comparisons that guard a `take_along_axis`. -/
theorem within {q n : ℕ} (h : q ≤ n) (hn : n < 2 ^ 31) :
    IntOp.andi (IntOp.cmpi .sge (BitVec.ofNat 32 q) 0#32) (IntOp.cmpi .sle (BitVec.ofNat 32 q) (BitVec.ofNat 32 n)) = 1#1 := by
  have h0 : IntOp.cmpi .sge (BitVec.ofNat 32 q) 0#32 = 1#1 := by
    show BitVec.ofBool (decide ((0#32).toInt ≤ (BitVec.ofNat 32 q).toInt)) = 1#1
    rw [toInt_small (n := q) (by omega), decide_eq_true (by show (0 : ℤ) ≤ (q : ℤ); omega)]
    rfl
  have h1 : IntOp.cmpi .sle (BitVec.ofNat 32 q) (BitVec.ofNat 32 n) = 1#1 := by
    show BitVec.ofBool (decide ((BitVec.ofNat 32 q).toInt ≤ (BitVec.ofNat 32 n).toInt)) = 1#1
    rw [toInt_small (by omega), toInt_small (by omega), decide_eq_true (by omega)]
    rfl
  rw [h0, h1]
  rfl

theorem takeAlong_apply {N : ℕ} (hN : N < 2 ^ 31) (wf : GatherDims.WF ⟨2, ![4, N]⟩ S4x98x1 S4x98 [] [1] [0] [1] [0] 2 ![1, 1]) (n : BitVec 32)
    (x : IVec ⟨2, ![4, N]⟩ 32) (i : IVec S4x98 32) (b : Fin 4) (p : Fin 98) (q : Fin N) (h : i (ix2 b p) = BitVec.ofNat 32 q.val) :
    takeAlong (alongDims N wf) n (BitVec.ofNat 32 (N - 1)) x i (ix2 b p) = x (ix2 b q) := by
  have hq := q.isLt
  have e : shapeCast S4x98x1 (wrapped n i) shapeCasts_S4x98_S4x98x1 (ix3 b p 0) = BitVec.ofNat 32 q.val := by
    refine (shapeCast_apply (wrapped n i) shapeCasts_S4x98_S4x98x1 (ix3 b p 0) (ix2 b p) ?_).trans (wrapped_apply n i _ (by omega) h)
    rw [Shape.rowMajor_val_two, Shape.rowMajor_val_three]
    show b.val * 98 + p.val = (b.val * 98 + p.val) * 1 + 0
    omega
  unfold takeAlong
  show Scalar.select _ _ _ = _
  rw [reduce_one _ b p ?_, gather_along hN wf x _ b p q e]
  · rfl
  · show IntOp.andi (IntOp.cmpi .sge (shapeCast S4x98x1 (wrapped n i) shapeCasts_S4x98_S4x98x1 (ix3 b p 0)) 0#32)
      (IntOp.cmpi .sle (shapeCast S4x98x1 (wrapped n i) shapeCasts_S4x98_S4x98x1 (ix3 b p 0)) (BitVec.ofNat 32 (N - 1))) = 1#1
    rw [e]
    exact within (by omega) (by omega)

/-! ## Counting along the last axis -/

/-- A fold of word addition over bits counts them. -/
theorem fold_count {ι : Type} [DecidableEq ι] (s : Finset ι) (Q : ι → Prop) [DecidablePred Q] (f : ι → BitVec 32)
    (h : ∀ k, f k = if Q k then 1#32 else 0#32) : Finset.fold IntOp.addi 0#32 f s = BitVec.ofNat 32 (s.filter Q).card := by
  induction s using Finset.induction_on with
  | empty => rfl
  | insert a s ha ih =>
    rw [Finset.fold_insert ha, ih, h, Finset.filter_insert]
    split
    · rw [Finset.card_insert_of_notMem fun e => ha (Finset.mem_filter.mp e).1, Nat.add_comm]
      exact (BitVec.ofNat_add 1 _).symm
    · exact BitVec.zero_add _

theorem reduce_counts (x : IVec S4x14x98 32) (b : Fin 4) (r : Fin 14) (Q : Fin 98 → Prop) [DecidablePred Q]
    (h : ∀ p, x (ix3 b r p) = if Q p then 1#32 else 0#32) :
    Host.reduce IntOp.addi x (constantI S_ 32 0#32) reducesTo_S4x14x98_S4x14_d2 h_S_ (ix2 b r) = BitVec.ofNat 32 (Finset.univ.filter Q).card := by
  rw [Host.reduce_eq_fold_single IntOp.addi x _ reducesTo_S4x14x98_S4x14_d2 (by decide) h_S_]
  refine fold_count (Finset.univ : Finset (Fin 98)) Q _ fun p => Eq.trans (congrArg x (funext fun c => ?_)) (h p)
  match c with
  | ⟨0, _⟩ => rfl
  | ⟨1, _⟩ => rfl
  | ⟨2, _⟩ => rfl

/-! ## The running sum along a row -/

theorem symm_row (n : Fin (⟨2, ![1, 14]⟩ : Shape).numel) : (⟨2, ![1, 14]⟩ : Shape).rowMajor.symm n = ix2 (0 : Fin 1) (n.cast (Shape.numel_rank2 _) : Fin 14) := by
  rw [Equiv.symm_apply_eq]
  refine Fin.ext ?_
  rw [Shape.rowMajor_val_two]
  show n.val = 0 * 14 + n.val
  omega

theorem window_sums (x : IVec S4x14 32) (f : ℕ → ℕ) (b : Fin 4) (hx : ∀ i : Fin 14, x (ix2 b i) = BitVec.ofNat 32 (f i.val)) (init : IVec S_ 32)
    (hinit : ∀ i, init i = 0#32) (j : Fin 14) :
    Host.reduceWindow IntOp.addi ![1, 14] ![1, 1] ![0, 13] ![0, 0] x init reduceWindows_S4x14_S4x14_w1s1p0_0_w14s1p13_0 h_S_ (ix2 b j)
      = BitVec.ofNat 32 ((List.range (j.val + 1)).map f).sum := by
  have hj := j.isLt
  have hb := b.isLt
  unfold Host.reduceWindow
  refine (Routing.foldl_addi_ofNat _ _ (fun n => if 13 ≤ j.val + n.val then f (j.val + n.val - 13) else 0) (fun n _ => ?_) _ 0 (hinit _)).trans ?_
  · have hn : n.val < 14 := (n.cast (Shape.numel_rank2 _) : Fin 14).isLt
    have w0 : ((⟨2, ![1, 14]⟩ : Shape).rowMajor.symm n 0).val = 0 := by rw [symm_row]; rfl
    have w1 : ((⟨2, ![1, 14]⟩ : Shape).rowMajor.symm n 1).val = n.val := by rw [symm_row]; rfl
    dsimp only
    split
    · next hin =>
      have h1 := (hin 1).1
      change 13 ≤ j.val * 1 + ((⟨2, ![1, 14]⟩ : Shape).rowMajor.symm n 1).val at h1
      rw [w1] at h1
      rw [if_pos (by omega)]
      refine (congrArg x (funext fun a => Fin.ext ?_)).trans (hx ⟨j.val + n.val - 13, by omega⟩)
      match a with
      | ⟨0, _⟩ =>
        show b.val * 1 + ((⟨2, ![1, 14]⟩ : Shape).rowMajor.symm n 0).val - 0 = b.val
        rw [w0]
        omega
      | ⟨1, _⟩ =>
        show j.val * 1 + ((⟨2, ![1, 14]⟩ : Shape).rowMajor.symm n 1).val - 13 = j.val + n.val - 13
        rw [w1, Nat.mul_one]
    · next hin =>
      rw [if_neg fun hle => hin fun a => ?_]
      · exact hinit _
      · match a with
        | ⟨0, _⟩ =>
          show 0 ≤ b.val * 1 + ((⟨2, ![1, 14]⟩ : Shape).rowMajor.symm n 0).val ∧ b.val * 1 + ((⟨2, ![1, 14]⟩ : Shape).rowMajor.symm n 0).val - 0 < 4
          rw [w0]
          omega
        | ⟨1, _⟩ =>
          show 13 ≤ j.val * 1 + ((⟨2, ![1, 14]⟩ : Shape).rowMajor.symm n 1).val ∧ j.val * 1 + ((⟨2, ![1, 14]⟩ : Shape).rowMajor.symm n 1).val - 13 < 14
          rw [w1]
          omega
  · rw [Nat.zero_add, Routing.map_finRange_val _ fun w => if 13 ≤ j.val + w then f (j.val + w - 13) else 0]
    exact congrArg (BitVec.ofNat 32) ((congrArg (fun M => ((List.range M).map fun w => if 13 ≤ j.val + w then f (j.val + w - 13) else 0).sum)
      (Shape.numel_rank2 (⟨2, ![1, 14]⟩ : Shape).size)).trans (Routing.sum_window f 13 j.val (by omega)))

/-! ## The scatter -/

/-- An update of the scatter lands at the element its three words name. -/
theorem lands_iff (idx : IVec S4x98x3 32) (b : Fin 4) (p : Fin 98) (c : Fin 4) (r k : Fin 14) :
    scatter_S4x14x14_S4x98x3_S4x98_n_012_012_2.resultIdx? (ix2 b p) idx = some (ix3 c r k)
      ↔ (idx (ix3 b p 0)).toInt = c.val ∧ (idx (ix3 b p 1)).toInt = r.val ∧ (idx (ix3 b p 2)).toInt = k.val := by
  have e : ∀ q : Fin 3, scatter_S4x14x14_S4x98x3_S4x98_n_012_012_2.siIdx (ix2 b p) q = ix3 b p q := fun q => by
    funext a
    match a with
    | ⟨0, _⟩ => rfl
    | ⟨1, _⟩ => rfl
    | ⟨2, _⟩ => rfl
  have s : ∀ q : Fin 3, scatter_S4x14x14_S4x98x3_S4x98_n_012_012_2.start (ix2 b p) idx q
      + (scatter_S4x14x14_S4x98x3_S4x98_n_012_012_2.window (ix2 b p) q : ℤ) = (idx (ix3 b p q)).toInt := fun q => by
    rw [← e q]
    match q with
    | ⟨0, _⟩ => exact Int.add_zero _
    | ⟨1, _⟩ => exact Int.add_zero _
    | ⟨2, _⟩ => exact Int.add_zero _
  rw [Routing.resultIdx?_eq_some]
  constructor
  · intro h
    exact ⟨(s 0).symm.trans (h 0), (s 1).symm.trans (h 1), (s 2).symm.trans (h 2)⟩
  · intro h a
    match a with
    | ⟨0, _⟩ => exact (s 0).trans h.1
    | ⟨1, _⟩ => exact (s 1).trans h.2.1
    | ⟨2, _⟩ => exact (s 2).trans h.2.2

end Cert.KernelIdeal.Patch

end
-- ==== Proof.Ranks.lean ====
/-
  The counting behind the tables. An image keeps 98 of the 196 patches of a 14 by 14 square; a `Ranking` is the list of
  the kept ones, in the order of the result, with an order of the list that goes up with the patch row. In that order the
  patches of row `r` stand together, after those of the rows below `r`, so a kept patch is named by its row and its rank
  in the row.
-/
module

public import proofs.«01_k».proof.Proof.Plan

@[expose] public section

noncomputable section

namespace Cert.KernelIdeal.Patch

/-- A down-closed set of positions is the positions below its size. -/
theorem mem_iff_lt_card {n : ℕ} (S : Finset (Fin n)) (h : ∀ i j : Fin n, i ≤ j → j ∈ S → i ∈ S) (i : Fin n) : i ∈ S ↔ i.val < S.card := by
  have e : (S.map Fin.valEmbedding).card = S.card := Finset.card_map _
  constructor
  · intro hi
    have hs : Finset.range (i.val + 1) ⊆ S.map Fin.valEmbedding := fun x hx =>
      have hx := Finset.mem_range.mp hx
      Finset.mem_map.mpr ⟨⟨x, by omega⟩, h _ i (Fin.le_def.mpr (by show x ≤ i.val; omega)) hi, rfl⟩
    have hc := Finset.card_le_card hs
    rw [Finset.card_range] at hc
    omega
  · intro hi
    by_contra hn
    have hs : S.map Fin.valEmbedding ⊆ Finset.range i.val := fun x hx => by
      obtain ⟨j, hj, rfl⟩ := Finset.mem_map.mp hx
      exact Finset.mem_range.mpr (lt_of_not_ge fun hij => hn (h i j (Fin.le_def.mpr hij) hj))
    have hc := Finset.card_le_card hs
    rw [Finset.card_range] at hc
    omega

/-- The kept patches of an image, and an order of them that goes up with the patch row. -/
structure Ranking where
  /-- the patches, row by row numbers, in the order of the result; -/
  kept : Fin 98 → ℕ
  /-- an order of them. -/
  order : Fin 98 → Fin 98
  kept_lt : ∀ p, kept p < 196
  kept_inj : Function.Injective kept
  order_inj : Function.Injective order
  order_mono : ∀ i j, i ≤ j → kept (order i) / 14 ≤ kept (order j) / 14

namespace Ranking

variable (R : Ranking)

/-- The patch row, and the patch column, of a kept patch. -/
def row (p : Fin 98) : Fin 14 := ⟨R.kept p / 14, by have := R.kept_lt p; omega⟩
@[inherit_doc row] def column (p : Fin 98) : Fin 14 := ⟨R.kept p % 14, Nat.mod_lt _ (by decide)⟩

/-- How many kept patches lie in row `r`, and how many below it. -/
def count (r : ℕ) : ℕ := (Finset.univ.filter fun p => (R.row p).val = r).card
@[inherit_doc count] def below (r : ℕ) : ℕ := (Finset.univ.filter fun p => (R.row p).val < r).card

theorem below_zero : R.below 0 = 0 := by simp [below]
theorem below_succ (r : ℕ) : R.below (r + 1) = R.below r + R.count r := by
  unfold below count
  rw [← Finset.card_union_of_disjoint]
  · congr 1
    ext p
    simp only [Finset.mem_filter, Finset.mem_union, Finset.mem_univ, true_and]
    omega
  · rw [Finset.disjoint_left]
    intro p h h'
    have := (Finset.mem_filter.mp h).2
    have := (Finset.mem_filter.mp h').2
    omega

theorem below_le (r : ℕ) : R.below r ≤ 98 := by
  have := Finset.card_le_univ (Finset.univ.filter fun p => (R.row p).val < r)
  rwa [Fintype.card_fin] at this

theorem count_le (r : ℕ) : R.count r ≤ 14 := by
  have h : ((Finset.univ.filter fun p => (R.row p).val = r).image R.column).card = R.count r := by
    refine Finset.card_image_of_injOn fun p hp q hq e => R.kept_inj ?_
    have hp := (Finset.mem_filter.mp (Finset.mem_coe.mp hp)).2
    have hq := (Finset.mem_filter.mp (Finset.mem_coe.mp hq)).2
    have e := congrArg Fin.val e
    simp only [row, column] at hp hq e
    omega
  rw [← h]
  have := Finset.card_le_univ ((Finset.univ.filter fun p => (R.row p).val = r).image R.column)
  rwa [Fintype.card_fin] at this

/-- The order as a permutation. -/
def perm : Fin 98 ≃ Fin 98 := Equiv.ofBijective R.order (Finite.injective_iff_bijective.mp R.order_inj)

/-- In the order the patches below row `r` come first. -/
theorem row_lt_iff (r : ℕ) (i : Fin 98) : (R.row (R.order i)).val < r ↔ i.val < R.below r := by
  have h := mem_iff_lt_card (Finset.univ.filter fun j => (R.row (R.order j)).val < r)
    (fun i j hij hj => Finset.mem_filter.mpr ⟨Finset.mem_univ _, lt_of_le_of_lt (R.order_mono i j hij) (Finset.mem_filter.mp hj).2⟩) i
  rw [Finset.mem_filter] at h
  have e : (Finset.univ.filter fun j => (R.row (R.order j)).val < r).card = R.below r := by
    refine Finset.card_bij (fun j _ => R.order j) (fun j hj => ?_) (fun j _ k _ e => R.order_inj e) (fun p hp => ?_)
    · exact Finset.mem_filter.mpr ⟨Finset.mem_univ _, (Finset.mem_filter.mp hj).2⟩
    · refine ⟨R.perm.symm p, Finset.mem_filter.mpr ⟨Finset.mem_univ _, ?_⟩, R.perm.apply_symm_apply p⟩
      rw [show R.order (R.perm.symm p) = p from R.perm.apply_symm_apply p]
      exact (Finset.mem_filter.mp hp).2
  rw [e] at h
  exact ⟨fun hi => h.mp ⟨Finset.mem_univ _, hi⟩, fun hi => (h.mpr hi).2⟩

/-- A position in the order lies among those of its row. -/
theorem below_le_pos (i : Fin 98) : R.below (R.row (R.order i)).val ≤ i.val := by
  by_contra h
  exact lt_irrefl _ ((R.row_lt_iff _ i).mpr (by omega))
theorem pos_lt (i : Fin 98) : i.val < R.below (R.row (R.order i)).val + R.count (R.row (R.order i)).val := by
  rw [← R.below_succ]
  exact (R.row_lt_iff _ i).mp (Nat.lt_succ_self _)

/-- The rank in its row of the patch at a position of the order. -/
def rank (i : Fin 98) : Fin 14 :=
  ⟨i.val - R.below (R.row (R.order i)).val, by
    have := R.pos_lt i
    have := R.count_le (R.row (R.order i)).val
    have := R.below_le_pos i
    omega⟩

theorem rank_lt (i : Fin 98) : (R.rank i).val < R.count (R.row (R.order i)).val := by
  have := R.pos_lt i
  have := R.below_le_pos i
  show i.val - _ < _
  omega

/-- The position in the order of the patch of rank `k` in row `r`. -/
def position (r : ℕ) (k : Fin 14) (h : k.val < R.count r) : Fin 98 :=
  ⟨R.below r + k.val, by
    have := R.below_le (r + 1)
    rw [R.below_succ] at this
    omega⟩

theorem row_position (r : ℕ) (k : Fin 14) (h : k.val < R.count r) : (R.row (R.order (R.position r k h))).val = r := by
  have h1 := R.row_lt_iff (r + 1) (R.position r k h)
  have h2 := R.row_lt_iff r (R.position r k h)
  rw [R.below_succ] at h1
  simp only [position] at h1 h2 ⊢
  omega

theorem rank_position (r : ℕ) (k : Fin 14) (h : k.val < R.count r) : R.rank (R.position r k h) = k := by
  refine Fin.ext ?_
  show (R.position r k h).val - R.below (R.row (R.order (R.position r k h))).val = k.val
  rw [R.row_position r k h]
  show R.below r + k.val - R.below r = k.val
  omega

theorem position_rank (i : Fin 98) : R.position (R.row (R.order i)).val (R.rank i) (R.rank_lt i) = i := by
  refine Fin.ext ?_
  have := R.below_le_pos i
  show R.below _ + (i.val - R.below _) = i.val
  omega

end Ranking

/-- The plan of four images' rankings. -/
def planOf (R : Fin 4 → Ranking) : Plan where
  cnt b r := (R b).count r.val
  pw b r k := if h : k.val < (R b).count r.val then (R b).column ((R b).order ((R b).position r.val k h)) else 0
  pp b r k := if h : k.val < (R b).count r.val then (R b).order ((R b).position r.val k h) else 0
  slot b p := ((R b).row p, (R b).rank ((R b).perm.symm p))
  cnt_le b r := (R b).count_le r.val
  slot_lt b p := by
    have h := (R b).rank_lt ((R b).perm.symm p)
    rwa [show (R b).order ((R b).perm.symm p) = p from (R b).perm.apply_symm_apply p] at h
  pp_slot b p := by
    have e : (R b).order ((R b).perm.symm p) = p := (R b).perm.apply_symm_apply p
    have h := (R b).rank_lt ((R b).perm.symm p)
    have q := (R b).position_rank ((R b).perm.symm p)
    simp only [e] at h q
    rw [dif_pos h, q, e]
  slot_pp b r k h := by
    rw [dif_pos h]
    refine Prod.ext (Fin.ext ((R b).row_position r.val k h)) ?_
    show (R b).rank ((R b).perm.symm ((R b).perm ((R b).position r.val k h))) = k
    rw [Equiv.symm_apply_apply, (R b).rank_position]

/-- The column of the patch a slot names is the patch's. -/
theorem planOf_pw_slot (R : Fin 4 → Ranking) (b : Fin 4) (p : Fin 98) :
    (planOf R).pw b ((planOf R).slot b p).1 ((planOf R).slot b p).2 = (R b).column p := by
  have h := (planOf R).slot_lt b p
  have q := (planOf R).pp_slot b p
  simp only [planOf] at h q ⊢
  rw [dif_pos h] at q ⊢
  rw [q]

end Cert.KernelIdeal.Patch

end
-- ==== Proof.Tables.lean ====
/-
  The tables as functions of the kept patches' numbers: the host operations between the choice of the patches and the
  grid, composed, and the proof that they hold a plan's numbers.
-/
module

public import proofs.«01_k».proof.Proof.Along
public import proofs.«01_k».proof.Proof.Ranks

@[expose] public section

noncomputable section

namespace Cert.KernelIdeal.Patch

open Cert.KernelIdeal Cert.KernelIdeal.Gen
open Idealize.ShloMosaic Idealize.ShloMosaic.ValueIdx

/-! ## Sorting rows -/

theorem along_row {N : ℕ} (b : Fin 4) (i k : Fin N) : (ix2 b i : (⟨2, ![4, N]⟩ : Shape).Idx).along 1 k = ix2 b k := by
  funext a
  match a with
  | ⟨0, _⟩ => rfl
  | ⟨1, _⟩ => rfl

/-- The place each position of row `b`'s argsort comes from. -/
def place {α : Type} {N : ℕ} (cmp : α × BitVec 32 → α × BitVec 32 → BitVec 1) (x : (⟨2, ![4, N]⟩ : Shape).Idx → α) (b : Fin 4) : Fin N → Fin N :=
  sortedFrom fun k k' => cmp (x (ix2 b k), BitVec.ofNat 32 k.val) (x (ix2 b k'), BitVec.ofNat 32 k'.val) == 1#1

theorem place_injective {α : Type} {N : ℕ} (cmp : α × BitVec 32 → α × BitVec 32 → BitVec 1) (x : (⟨2, ![4, N]⟩ : Shape).Idx → α) (b : Fin 4) :
    Function.Injective (place cmp x b) := sortedFrom_injective _

/-- An argsort of rows holds the places. -/
theorem argsort_apply {α : Type} {N : ℕ} (cmp : α × BitVec 32 → α × BitVec 32 → BitVec 1) (x : (⟨2, ![4, N]⟩ : Shape).Idx → α) (b : Fin 4) (i : Fin N) :
    (Host.sort2 ⟨2, ![4, N]⟩ 1 cmp x (iotaInDim ⟨2, ![4, N]⟩ 32 1)).2 (ix2 b i) = BitVec.ofNat 32 (place cmp x b i).val := by
  have e : (fun k k' : Fin N => cmp (x ((ix2 b i : (⟨2, ![4, N]⟩ : Shape).Idx).along 1 k), BitVec.ofNat 32 k.val)
      (x ((ix2 b i : (⟨2, ![4, N]⟩ : Shape).Idx).along 1 k'), BitVec.ofNat 32 k'.val) == 1#1)
      = fun k k' => cmp (x (ix2 b k), BitVec.ofNat 32 k.val) (x (ix2 b k'), BitVec.ofNat 32 k'.val) == 1#1 := by
    funext k k'
    rw [along_row, along_row]
  unfold Host.sort2
  rw [dif_pos (by decide : 1 < 2)]
  exact congrArg (fun f => BitVec.ofNat 32 (sortedFrom f i).val) e

/-- The kept patches' numbers: the first half of an argsort of the scores. -/
def picks {F : FTy → Type} [FloatOps F] (s : S4x196.Idx → F .f32) : IVec S4x98 32 :=
  extractStridedSlice S4x98 ![0, 0] (Host.sort2 S4x196 1 comparator_f32_i32_d1 s (iotaInDim S4x196 32 1)).2 slices_S4x196_S4x98_0_0

/-- They are different numbers below 196. -/
theorem picks_spec {F : FTy → Type} [FloatOps F] (s : S4x196.Idx → F .f32) :
    ∃ f : Fin 4 → Fin 98 → ℕ, (∀ b p, f b p < 196) ∧ (∀ b, Function.Injective (f b)) ∧ ∀ b p, picks s (ix2 b p) = BitVec.ofNat 32 (f b p) := by
  refine ⟨fun b p => (place comparator_f32_i32_d1 s b (⟨p.val, by omega⟩ : Fin 196)).val, fun b p => Fin.isLt _, fun b p q h => ?_, fun b p => ?_⟩
  · exact Fin.ext (Fin.mk.inj (place_injective _ _ _ (Fin.ext h)))
  · refine Eq.trans (congrArg (Host.sort2 S4x196 1 comparator_f32_i32_d1 s (iotaInDim S4x196 32 1)).2 (funext fun a => ?_))
      (argsort_apply comparator_f32_i32_d1 s b ⟨p.val, by omega⟩)
    match a with
    | ⟨0, _⟩ => exact Fin.ext (Nat.zero_add _)
    | ⟨1, _⟩ => exact Fin.ext (Nat.zero_add _)

/-! ## Rows and columns of the patches -/

/-- The sign of a word. -/
def signWord (w : BitVec 32) : BitVec 32 := if w = 0 then 0 else if w.msb then -1 else 1

/-- The quotient by 14 as the host writes a floor division, and the remainder as it writes one. -/
def rowWord (w : BitVec 32) : BitVec 32 :=
  Scalar.select (IntOp.andi (IntOp.cmpi .ne (signWord w) (signWord 14#32)) (IntOp.cmpi .ne (IntOp.remsi .host w 14#32) 0#32))
    (IntOp.subi (IntOp.divsi .host w 14#32) 1#32) (IntOp.divsi .host w 14#32)
@[inherit_doc rowWord] def columnWord (w : BitVec 32) : BitVec 32 :=
  Scalar.select
    (IntOp.andi (IntOp.cmpi .ne (IntOp.cmpi .slt (IntOp.remsi .host w 14#32) 0#32) (IntOp.cmpi .slt 14#32 0#32)) (IntOp.cmpi .ne (IntOp.remsi .host w 14#32) 0#32))
    (IntOp.addi (IntOp.remsi .host w 14#32) 14#32) (IntOp.remsi .host w 14#32)

theorem rowWord_ofNat {n : ℕ} (h : n < 196) : rowWord (BitVec.ofNat 32 n) = BitVec.ofNat 32 (n / 14) :=
  (by decide +kernel : ∀ n : Fin 196, rowWord (BitVec.ofNat 32 n.val) = BitVec.ofNat 32 (n.val / 14)) ⟨n, h⟩
theorem columnWord_ofNat {n : ℕ} (h : n < 196) : columnWord (BitVec.ofNat 32 n) = BitVec.ofNat 32 (n % 14) :=
  (by decide +kernel : ∀ n : Fin 196, columnWord (BitVec.ofNat 32 n.val) = BitVec.ofNat 32 (n.val % 14)) ⟨n, h⟩

/-! ## The tables -/

/-- How many patches each row holds. -/
def counts (h : IVec S4x98 32) : IVec S4x14 32 :=
  Host.reduce IntOp.addi
    (extui 32
      (cmpi .eq (broadcastInDim S4x14x98 ![0, 1, 2] bcast_S4x1x98_S4x14x98_0_1_2 (broadcastInDim S4x1x98 ![0, 2] bcast_S4x98_S4x1x98_0_2 h))
        (broadcastInDim S4x14x98 ![0, 1, 2] bcast_S1x14x1_S4x14x98_0_1_2 (broadcastInDim S1x14x1 ![1] bcast_S14_S1x14x1_1 (iotaInDim S14 32 0))))
      natLt_1_32)
    (constantI S_ 32 0#32) reducesTo_S4x14x98_S4x14_d2 h_S_

/-- Their running sums along the rows. -/
def sums (c : IVec S4x14 32) : IVec S4x14 32 :=
  Host.reduceWindow IntOp.addi ![1, 14] ![1, 1] ![0, 13] ![0, 0] c (fun _ : S_.Idx => 0#32) reduceWindows_S4x14_S4x14_w1s1p0_0_w14s1p13_0 h_S_

/-- How many patches lie below each row. -/
def starts (c : IVec S4x14 32) : IVec S4x14 32 :=
  concatenate S4x14 1 [⟨S4x1, fun _ => 0#32⟩, ⟨S4x13, extractStridedSlice S4x13 ![0, 0] (sums c) slices_S4x14_S4x13_0_0⟩] concatenates_S4x1_S4x13_S4x14_d1

/-- The patches in an order that goes up with the row. -/
def order (h : IVec S4x98 32) : IVec S4x98 32 := (Host.sort2 S4x98 1 comparator_i32_i32_d1 h (iotaInDim S4x98 32 1)).2

/-- Each position of the order less the word there: its rank, where the word is its row's start. -/
def ranks (s : IVec S4x98 32) : IVec S4x98 32 :=
  subi (broadcastInDim S4x98 ![0, 1] bcast_S1x98_S4x98_0_1 (broadcastInDim S1x98 ![1] bcast_S98_S1x98_1 (iotaInDim S98 32 0))) s

/-- The three index words of each position: its image, its row and its rank. -/
def triples (r k : IVec S4x98 32) : IVec S4x98x3 32 :=
  concatenate S4x98x3 2
    [⟨S4x98x1, broadcastInDim S4x98x1 ![0, 1] bcast_S4x98_S4x98x1_0_1
        (broadcastInDim S4x98 ![0, 1] bcast_S4x1_S4x98_0_1 (wrapped 4#32 (broadcastInDim S4x1 ![0] bcast_S4_S4x1_0 (iotaInDim S4 32 0))))⟩,
      ⟨S4x98x1, broadcastInDim S4x98x1 ![0, 1] bcast_S4x98_S4x98x1_0_1 (wrapped 14#32 r)⟩,
      ⟨S4x98x1, broadcastInDim S4x98x1 ![0, 1] bcast_S4x98_S4x98x1_0_1 (wrapped 14#32 k)⟩] concatenates_S4x98x1_S4x98x1_S4x98x1_S4x98x3_d2

/-- The words of the positions, at their rows and ranks. -/
def table (r k u : IVec S4x98 32) : IVec S4x14x14 32 :=
  Host.scatter scatter_S4x14x14_S4x98x3_S4x98_n_012_012_2 (fun _ b => b) (fun _ => 0#32) (triples r k) u

/-- The words of `x` in the order. -/
def ordered (x o : IVec S4x98 32) : IVec S4x98 32 := takeAlong gather_S4x98_S4x98x1_S4x98_n_1_0_0_1_2_11 98#32 97#32 x o

/-- The row and the rank of each position of the order, for patches with rows `h`. -/
def rowsInOrder (h : IVec S4x98 32) : IVec S4x98 32 := ordered h (order h)
@[inherit_doc rowsInOrder] def ranksInOrder (h : IVec S4x98 32) : IVec S4x98 32 :=
  ranks (takeAlong gather_S4x14_S4x98x1_S4x98_n_1_0_0_1_2_11 14#32 13#32 (starts (counts h)) (rowsInOrder h))

/-- The table of the words `u`, for patches with rows `h`. -/
def tableOf (h u : IVec S4x98 32) : IVec S4x14x14 32 := table (rowsInOrder h) (ranksInOrder h) u

end Cert.KernelIdeal.Patch

end
-- ==== Proof.Holds.lean ====
/-
  The tables hold a plan's numbers: for kept patches whose numbers are different and below 196, the host's order of them is
  a ranking, and every word the host's tables hold is the number the ranking's plan has there.
-/
module

public import proofs.«01_k».proof.Proof.Tables

@[expose] public section

noncomputable section

namespace Cert.KernelIdeal.Patch

open Cert.KernelIdeal Cert.KernelIdeal.Gen
open Idealize.ShloMosaic Idealize.ShloMosaic.ValueIdx

/-- The host's ranking of patches with numbers `f` and row words `h`. -/
def rankingOf (f : Fin 98 → ℕ) (hlt : ∀ p, f p < 196) (hinj : Function.Injective f) (h : IVec S4x98 32) (b : Fin 4)
    (hh : ∀ p, h (ix2 b p) = BitVec.ofNat 32 (f p / 14)) : Ranking where
  kept := f
  order := place comparator_i32_i32_d1 h b
  kept_lt := hlt
  kept_inj := hinj
  order_inj := place_injective _ _ _
  order_mono := by
    have e : (fun k k' : Fin 98 => comparator_i32_i32_d1 (h (ix2 b k), BitVec.ofNat 32 k.val) (h (ix2 b k'), BitVec.ofNat 32 k'.val) == 1#1)
        = fun k k' => decide (f k / 14 < f k' / 14) := by
      funext k k'
      have hk := hlt k
      have hk' := hlt k'
      show (BitVec.ofBool (decide ((h (ix2 b k)).toInt < (h (ix2 b k')).toInt)) == 1#1) = _
      rw [hh, hh, toInt_small (by omega), toInt_small (by omega)]
      by_cases q : f k / 14 < f k' / 14
      · rw [decide_eq_true (by omega), decide_eq_true q]; rfl
      · rw [decide_eq_false (by omega), decide_eq_false q]; rfl
    intro i j hij
    rcases Nat.lt_or_ge i.val j.val with hl | hg
    · have q := sortedFrom_noInversion (fun k k' : Fin 98 => decide (f k / 14 < f k' / 14)) (fun k k' => decide (f k / 14 < f k' / 14))
        (fun a c q => decide_eq_false (by have := of_decide_eq_true q; omega)) (fun _ _ q => q)
        (fun a c d q q' => decide_eq_false (by have := of_decide_eq_false q; have := of_decide_eq_false q'; omega)) i j hl
      have q := of_decide_eq_false q
      unfold place
      rw [e]
      omega
    · rw [show i = j from Fin.ext (by have : i.val ≤ j.val := hij; omega)]

section

variable (f : Fin 4 → Fin 98 → ℕ) (hlt : ∀ b p, f b p < 196) (hinj : ∀ b, Function.Injective (f b)) (h : IVec S4x98 32)
  (hh : ∀ b p, h (ix2 b p) = BitVec.ofNat 32 (f b p / 14))

/-- The ranking of each image. -/
abbrev rankings (b : Fin 4) : Ranking := rankingOf (f b) (hlt b) (hinj b) h b (hh b)

theorem counts_apply (b : Fin 4) (r : Fin 14) : counts h (ix2 b r) = BitVec.ofNat 32 ((rankings f hlt hinj h hh b).count r.val) := by
  refine reduce_counts _ b r (fun p => ((rankings f hlt hinj h hh b).row p).val = r.val) fun p => ?_
  have e : broadcastInDim S4x14x98 ![0, 1, 2] bcast_S4x1x98_S4x14x98_0_1_2 (broadcastInDim S4x1x98 ![0, 2] bcast_S4x98_S4x1x98_0_2 h) (ix3 b r p)
      = h (ix2 b p) := congrArg h (funext fun a => match a with
    | ⟨0, _⟩ => rfl
    | ⟨1, _⟩ => rfl)
  show (IntOp.cmpi .eq (broadcastInDim S4x14x98 ![0, 1, 2] bcast_S4x1x98_S4x14x98_0_1_2 (broadcastInDim S4x1x98 ![0, 2] bcast_S4x98_S4x1x98_0_2 h) (ix3 b r p))
    (BitVec.ofNat 32 r.val)).setWidth 32 = if f b p / 14 = r.val then 1#32 else 0#32
  have := hlt b p
  rw [e, hh]
  show (BitVec.ofBool (BitVec.ofNat 32 (f b p / 14) == BitVec.ofNat 32 r.val)).setWidth 32 = _
  split
  · next q => rw [q, beq_self_eq_true]; rfl
  · next q => rw [beq_eq_false_iff_ne.mpr fun w => q (word_inj (by omega) (by omega) w)]; rfl

theorem sum_counts (R : Ranking) (r : ℕ) : ((List.range r).map R.count).sum = R.below r := by
  induction r with
  | zero => exact R.below_zero.symm
  | succ r ih => rw [List.range_succ, List.map_append, List.sum_append, ih, R.below_succ, List.map_singleton, List.sum_singleton]

theorem sums_apply (b : Fin 4) (r : Fin 14) : sums (counts h) (ix2 b r) = BitVec.ofNat 32 ((rankings f hlt hinj h hh b).below (r.val + 1)) :=
  (window_sums (counts h) (rankings f hlt hinj h hh b).count b (counts_apply f hlt hinj h hh b) (fun _ => 0#32) (fun _ => rfl) r).trans
    (congrArg (BitVec.ofNat 32) (sum_counts _ _))

theorem firsts_apply (x : IVec S4x14 32) (b : Fin 4) (r : Fin 13) :
    extractStridedSlice S4x13 ![0, 0] x slices_S4x14_S4x13_0_0 (ix2 b r) = x (ix2 b (⟨r.val, by omega⟩ : Fin 14)) := by
  refine extractStridedSlice_apply ![0, 0] x slices_S4x14_S4x13_0_0 (ix2 b r) (ix2 b (⟨r.val, by omega⟩ : Fin 14)) fun a => ?_
  match a with
  | ⟨0, _⟩ => exact (Nat.zero_add _).symm
  | ⟨1, _⟩ => exact (Nat.zero_add _).symm

theorem starts_apply (b : Fin 4) (r : Fin 14) : starts (counts h) (ix2 b r) = BitVec.ofNat 32 ((rankings f hlt hinj h hh b).below r.val) := by
  unfold starts
  rcases r with ⟨_ | r, hr⟩
  · rw [concatenate_pair_apply_left (s₁ := S4x1) (s₂ := S4x13) (t := S4x14) 1 _ _ concatenates_S4x1_S4x13_S4x14_d1 _ rfl (ix2 b 0) fun a => match a with
      | ⟨0, _⟩ => rfl
      | ⟨1, _⟩ => rfl]
    exact congrArg (BitVec.ofNat 32) (rankings f hlt hinj h hh b).below_zero.symm
  · rw [concatenate_pair_apply_right (s₁ := S4x1) (s₂ := S4x13) (t := S4x14) 1 _ _ concatenates_S4x1_S4x13_S4x14_d1 _ rfl rfl (ix2 b (⟨r, by omega⟩ : Fin 13))
      (fun a => match a with
        | ⟨0, _⟩ => fun _ => rfl
        | ⟨1, _⟩ => fun q => absurd rfl q) rfl]
    rw [firsts_apply]
    exact sums_apply f hlt hinj h hh b ⟨r, by omega⟩

theorem order_apply (b : Fin 4) (i : Fin 98) : order h (ix2 b i) = BitVec.ofNat 32 ((rankings f hlt hinj h hh b).order i).val := argsort_apply _ h b i

theorem ordered_apply (x : IVec S4x98 32) (b : Fin 4) (i : Fin 98) : ordered x (order h) (ix2 b i) = x (ix2 b ((rankings f hlt hinj h hh b).order i)) :=
  takeAlong_apply (N := 98) (by omega) gather_S4x98_S4x98x1_S4x98_n_1_0_0_1_2_11_wf 98#32 x (order h) b i _ (order_apply f hlt hinj h hh b i)

theorem rowsInOrder_apply (b : Fin 4) (i : Fin 98) :
    rowsInOrder h (ix2 b i) = BitVec.ofNat 32 ((rankings f hlt hinj h hh b).row ((rankings f hlt hinj h hh b).order i)).val :=
  (ordered_apply f hlt hinj h hh h b i).trans (hh b _)

theorem ranksInOrder_apply (b : Fin 4) (i : Fin 98) : ranksInOrder h (ix2 b i) = BitVec.ofNat 32 ((rankings f hlt hinj h hh b).rank i).val := by
  have e := takeAlong_apply (N := 14) (by omega) gather_S4x14_S4x98x1_S4x98_n_1_0_0_1_2_11_wf 14#32 (starts (counts h)) (rowsInOrder h) b i _
    (rowsInOrder_apply f hlt hinj h hh b i)
  rw [starts_apply f hlt hinj h hh] at e
  have hle := (rankings f hlt hinj h hh b).below_le_pos i
  show BitVec.ofNat 32 i.val - takeAlong gather_S4x14_S4x98x1_S4x98_n_1_0_0_1_2_11 14#32 13#32 (starts (counts h)) (rowsInOrder h) (ix2 b i) = _
  refine (congrArg (BitVec.ofNat 32 i.val - ·) e).trans ?_
  refine BitVec.eq_of_toNat_eq ?_
  rw [BitVec.toNat_sub, toNat_small (by omega), toNat_small (by omega), toNat_small (by have := ((rankings f hlt hinj h hh b).rank i).isLt; omega)]
  show _ = i.val - (rankings f hlt hinj h hh b).below _
  omega

/-- Three columns side by side, read at a column. -/
theorem beside_apply (x : Fin 3 → IVec S4x98x1 32) (b : Fin 4) (i : Fin 98) (q : Fin 3) :
    concatenate S4x98x3 2 [⟨S4x98x1, x 0⟩, ⟨S4x98x1, x 1⟩, ⟨S4x98x1, x 2⟩] concatenates_S4x98x1_S4x98x1_S4x98x1_S4x98x3_d2 (ix3 b i q) = x q (ix3 b i 0) := by
  refine concatenate_apply_piece (t := S4x98x3) 2 [⟨S4x98x1, x 0⟩, ⟨S4x98x1, x 1⟩, ⟨S4x98x1, x 2⟩]
    concatenates_S4x98x1_S4x98x1_S4x98x1_S4x98x3_d2 (ix3 b i q) q.val q.isLt S4x98x1 (x q) ?_ rfl q.val ?_
    (ix3 b i 0) (fun a => ?_) rfl
  · match q with
    | ⟨0, _⟩ => rfl
    | ⟨1, _⟩ => rfl
    | ⟨2, _⟩ => rfl
  · match q with
    | ⟨0, _⟩ => rfl
    | ⟨1, _⟩ => rfl
    | ⟨2, _⟩ => rfl
  · match a with
    | ⟨0, _⟩ => exact fun _ => rfl
    | ⟨1, _⟩ => exact fun _ => rfl
    | ⟨2, _⟩ => exact fun q => absurd rfl q

theorem column_apply (v : IVec S4x98 32) (b : Fin 4) (i : Fin 98) :
    broadcastInDim S4x98x1 ![0, 1] bcast_S4x98_S4x98x1_0_1 v (ix3 b i 0) = v (ix2 b i) :=
  congrArg v (funext fun a => match a with
    | ⟨0, _⟩ => rfl
    | ⟨1, _⟩ => rfl)

theorem spread_apply (v : IVec S4x1 32) (b : Fin 4) (i : Fin 98) : broadcastInDim S4x98 ![0, 1] bcast_S4x1_S4x98_0_1 v (ix2 b i) = v (ix2 b 0) :=
  congrArg v (funext fun a => match a with
    | ⟨0, _⟩ => rfl
    | ⟨1, _⟩ => rfl)

/-- The three words of a position. -/
theorem triples_apply (r k : IVec S4x98 32) (b : Fin 4) (i : Fin 98) (x y : ℕ) (hx : x < 2 ^ 31) (hy : y < 2 ^ 31)
    (hr : r (ix2 b i) = BitVec.ofNat 32 x) (hk : k (ix2 b i) = BitVec.ofNat 32 y) :
    triples r k (ix3 b i 0) = BitVec.ofNat 32 b.val ∧ triples r k (ix3 b i 1) = BitVec.ofNat 32 x ∧ triples r k (ix3 b i 2) = BitVec.ofNat 32 y := by
  have hb := b.isLt
  have e := beside_apply ![broadcastInDim S4x98x1 ![0, 1] bcast_S4x98_S4x98x1_0_1
      (broadcastInDim S4x98 ![0, 1] bcast_S4x1_S4x98_0_1 (wrapped 4#32 (broadcastInDim S4x1 ![0] bcast_S4_S4x1_0 (iotaInDim S4 32 0)))),
    broadcastInDim S4x98x1 ![0, 1] bcast_S4x98_S4x98x1_0_1 (wrapped 14#32 r),
    broadcastInDim S4x98x1 ![0, 1] bcast_S4x98_S4x98x1_0_1 (wrapped 14#32 k)] b i
  have e0 : triples r k (ix3 b i 0) = broadcastInDim S4x98x1 ![0, 1] bcast_S4x98_S4x98x1_0_1
      (broadcastInDim S4x98 ![0, 1] bcast_S4x1_S4x98_0_1 (wrapped 4#32 (broadcastInDim S4x1 ![0] bcast_S4_S4x1_0 (iotaInDim S4 32 0)))) (ix3 b i 0) := e 0
  have e1 : triples r k (ix3 b i 1) = broadcastInDim S4x98x1 ![0, 1] bcast_S4x98_S4x98x1_0_1 (wrapped 14#32 r) (ix3 b i 0) := e 1
  have e2 : triples r k (ix3 b i 2) = broadcastInDim S4x98x1 ![0, 1] bcast_S4x98_S4x98x1_0_1 (wrapped 14#32 k) (ix3 b i 0) := e 2
  rw [e0, e1, e2, column_apply, column_apply, column_apply, spread_apply]
  exact ⟨wrapped_apply _ _ _ (by omega) rfl, wrapped_apply _ _ _ hx hr, wrapped_apply _ _ _ hy hk⟩

/-- Where the word of a position is written. -/
theorem lands_at (b : Fin 4) (i : Fin 98) (c : Fin 4) (r k : Fin 14) :
    scatter_S4x14x14_S4x98x3_S4x98_n_012_012_2.resultIdx? (ix2 b i) (triples (rowsInOrder h) (ranksInOrder h)) = some (ix3 c r k)
      ↔ b = c ∧ (rankings f hlt hinj h hh b).row ((rankings f hlt hinj h hh b).order i) = r ∧ (rankings f hlt hinj h hh b).rank i = k := by
  have hr := ((rankings f hlt hinj h hh b).row ((rankings f hlt hinj h hh b).order i)).isLt
  have hk := ((rankings f hlt hinj h hh b).rank i).isLt
  have hb := b.isLt
  obtain ⟨e0, e1, e2⟩ := triples_apply (rowsInOrder h) (ranksInOrder h) b i _ _ (by omega) (by omega) (rowsInOrder_apply f hlt hinj h hh b i)
    (ranksInOrder_apply f hlt hinj h hh b i)
  rw [lands_iff, e0, e1, e2, toInt_small (by omega), toInt_small (by omega), toInt_small (by omega)]
  simp only [Fin.ext_iff, Nat.cast_inj]

/-- A table holds at row `r` and rank `k` the word of that patch, and zero past the last rank. -/
theorem tableOf_apply (u : IVec S4x98 32) (b : Fin 4) (r k : Fin 14) :
    tableOf h u (ix3 b r k) = if hk : k.val < (rankings f hlt hinj h hh b).count r.val then u (ix2 b ((rankings f hlt hinj h hh b).position r.val k hk)) else 0#32 := by
  unfold tableOf table
  split
  · next hk =>
    refine Routing.scatter_set_hit _ _ _ _ _ _ (fun j hj => ?_) (ix2 b ((rankings f hlt hinj h hh b).position r.val k hk))
      ((lands_at f hlt hinj h hh b _ b r k).mpr ⟨rfl, Fin.ext ((rankings f hlt hinj h hh b).row_position r.val k hk), (rankings f hlt hinj h hh b).rank_position r.val k hk⟩)
    rw [eq_ix2 j] at hj ⊢
    obtain ⟨q, q1, q2⟩ := (lands_at f hlt hinj h hh (j 0) (j 1) b r k).mp hj
    subst q q1 q2
    exact congrArg (fun q => u (ix2 (j 0) q)) ((rankings f hlt hinj h hh (j 0)).position_rank (j 1)).symm
  · next hk =>
    refine Routing.scatter_set_miss _ _ _ _ _ fun j hj => ?_
    rw [eq_ix2 j] at hj
    obtain ⟨q, q1, q2⟩ := (lands_at f hlt hinj h hh (j 0) (j 1) b r k).mp hj
    subst q q1 q2
    exact hk ((rankings f hlt hinj h hh (j 0)).rank_lt (j 1))

/-- The three tables, for column words `c`. -/
theorem tables_hold (c : IVec S4x98 32) (hc : ∀ b p, c (ix2 b p) = BitVec.ofNat 32 (f b p % 14)) :
    (planOf (rankings f hlt hinj h hh)).Tables (counts h) (tableOf h (ordered c (order h))) (tableOf h (order h)) where
  cnt b r := counts_apply f hlt hinj h hh b r
  pw b r k := by
    rw [tableOf_apply f hlt hinj h hh]
    show _ = BitVec.ofNat 32 (dite _ _ _ : Fin 14).val
    split
    · exact (ordered_apply f hlt hinj h hh c b _).trans (hc b _)
    · rfl
  pp b r k := by
    rw [tableOf_apply f hlt hinj h hh]
    show _ = BitVec.ofNat 32 (dite _ _ _ : Fin 98).val
    split
    · exact order_apply f hlt hinj h hh b _
    · rfl

end

end Cert.KernelIdeal.Patch

end
-- ==== Proof.Chain.lean ====
/-
  The host operations between the scores and the grid, read: they leave the tables of Tables.lean in the buffers the grid
  reads, and the argument, transposed and cut into strips, in its window's.
-/
module

public import proofs.«01_k».proof.Proof.Tables
import Idealize.ShloMosaic.Lib.Tactic

@[expose] public section

set_option maxRecDepth 5452

noncomputable section

namespace Cert.KernelIdeal.Patch

open Cert.KernelIdeal Cert.KernelIdeal.Gen
open Idealize.ShloMosaic Idealize.ShloMosaic.TcCoe Idealize.ShloMosaic.ValueIdx

variable {F : FTy → Type} [FloatOps F]

/-- The host operations that draw the scores. -/
abbrev drawing : List (List (HloOp τ sig (Elt F))) := [hostOps0, hostOps0_1, hostOps0_2, hostOps0_3]

/-- The host operations between the scores and the grid: the kept patches' rows and columns, the counts and the order, the
    rows and columns in the order, and the tables. -/
abbrev numbering : List (List (HloOp τ sig (Elt F))) := [hostOps0_4, hostOps0_5, hostOps0_6, hostOps0_7, hostOps0_8]
@[inherit_doc numbering] abbrev counting : List (List (HloOp τ sig (Elt F))) := [hostOps0_9, hostOps0_10, hostOps0_11, hostOps0_12]
@[inherit_doc numbering] abbrev ordering : List (List (HloOp τ sig (Elt F))) := [hostOps0_13, hostOps0_14]
@[inherit_doc numbering] abbrev tabling : List (List (HloOp τ sig (Elt F))) := [hostOps0_15, hostOps0_16, hostOps0_17]

variable (V : Valuation τ sig (Elt F))

/-- What the buffers hold after each. -/
abbrev drawn : Valuation τ sig (Elt F) := StableHlo.after (List.flatten drawing) V
@[inherit_doc drawn] abbrev numbered : Valuation τ sig (Elt F) := StableHlo.after (List.flatten numbering) V
@[inherit_doc drawn] abbrev counted : Valuation τ sig (Elt F) := StableHlo.after (List.flatten counting) V
@[inherit_doc drawn] abbrev inOrder : Valuation τ sig (Elt F) := StableHlo.after (List.flatten ordering) V
@[inherit_doc drawn] abbrev tabled : Valuation τ sig (Elt F) := StableHlo.after (List.flatten tabling) V

/-- The buffers that pass from one to the next: the argument, the rows, the columns, the counts, the starts, the order, and
    the rows and columns in the order. -/
abbrev argOf : S4x384x224x224.Idx → Elt F .f32 := V (Proc.devRef .tc main_arg0)
@[inherit_doc argOf] abbrev rowsOf : IVec S4x98 32 := V (Proc.devRef .tc main_v11)
@[inherit_doc argOf] abbrev columnsOf : IVec S4x98 32 := V (Proc.devRef .tc main_v12)
@[inherit_doc argOf] abbrev countsOf : IVec S4x14 32 := V (Proc.devRef .tc main_v20)
@[inherit_doc argOf] abbrev startsOf : IVec S4x14 32 := V (Proc.devRef .tc main_v24)
@[inherit_doc argOf] abbrev orderOf : IVec S4x98 32 := V (Proc.devRef .tc main_v25)
@[inherit_doc argOf] abbrev orderedRowsOf : IVec S4x98 32 := V (Proc.devRef .tc main_v26)
@[inherit_doc argOf] abbrev orderedColumnsOf : IVec S4x98 32 := V (Proc.devRef .tc main_v27)

/-- The kept patches' numbers, of the scores. -/
abbrev kept : IVec S4x98 32 := picks (F := F) (V (Proc.devRef .tc main_v8))

theorem drawn_arg : argOf (drawn V) = argOf V := by sl_kernel_rfl

theorem numbered_arg : argOf (numbered V) = argOf V := by sl_kernel_rfl
theorem numbered_rows : rowsOf (numbered V) = fun i => rowWord (kept V i) := by sl_kernel_rfl
theorem numbered_columns : columnsOf (numbered V) = fun i => columnWord (kept V i) := by sl_kernel_rfl

theorem counted_arg : argOf (counted V) = argOf V := by sl_kernel_rfl
theorem counted_rows : rowsOf (counted V) = rowsOf V := by sl_kernel_rfl
theorem counted_columns : columnsOf (counted V) = columnsOf V := by sl_kernel_rfl
theorem counted_counts : countsOf (counted V) = counts (rowsOf V) := by sl_kernel_rfl
theorem counted_starts : startsOf (counted V) = starts (counts (rowsOf V)) := by sl_kernel_rfl
theorem counted_order : orderOf (counted V) = order (rowsOf V) := by sl_kernel_rfl

theorem inOrder_arg : argOf (inOrder V) = argOf V := by sl_kernel_rfl
theorem inOrder_counts : countsOf (inOrder V) = countsOf V := by sl_kernel_rfl
theorem inOrder_starts : startsOf (inOrder V) = startsOf V := by sl_kernel_rfl
theorem inOrder_order : orderOf (inOrder V) = orderOf V := by sl_kernel_rfl
theorem inOrder_rows : orderedRowsOf (inOrder V) = ordered (rowsOf V) (orderOf V) := by sl_kernel_rfl
theorem inOrder_columns : orderedColumnsOf (inOrder V) = ordered (columnsOf V) (orderOf V) := by sl_kernel_rfl

/-- The rank of each position of the order, of the starts and the rows in the order. -/
abbrev ranksOf : IVec S4x98 32 := ranks (takeAlong gather_S4x14_S4x98x1_S4x98_n_1_0_0_1_2_11 14#32 13#32 (startsOf V) (orderedRowsOf V))

theorem tabled_arg : argOf (tabled V) = argOf V := by sl_kernel_rfl
theorem tabled_counts : countsOf (tabled V) = countsOf V := by sl_kernel_rfl
theorem tabled_columns : (tabled V (Proc.devRef .tc main_v56) : IVec S4x14x14 32) = table (orderedRowsOf V) (ranksOf V) (orderedColumnsOf V) := by
  sl_kernel_rfl
theorem tabled_positions : (tabled V (Proc.devRef .tc main_v78) : IVec S4x14x14 32) = table (orderedRowsOf V) (ranksOf V) (orderOf V) := by sl_kernel_rfl
theorem tabled_strips : (tabled V (Proc.devRef .tc main_v80) : S4x14x16x224x384.Idx → Elt F .f32)
    = shapeCast S4x14x16x224x384 (transpose S4x224x224x384 [0, 2, 3, 1] (argOf V) transposes_S4x384x224x224_S4x224x224x384_0_2_3_1)
      shapeCasts_S4x224x224x384_S4x14x16x224x384 := by sl_kernel_rfl

/-- What the buffers hold at the grid. -/
abbrev atGrid : Valuation τ sig (Elt F) := tabled (inOrder (counted (numbered (drawn V))))

theorem atGrid_counts : countsOf (atGrid V) = counts fun i => rowWord (kept (drawn V) i) := by
  rw [tabled_counts, inOrder_counts, counted_counts, numbered_rows]

theorem atGrid_columns : (atGrid V (Proc.devRef .tc main_v56) : IVec S4x14x14 32)
    = tableOf (fun i => rowWord (kept (drawn V) i)) (ordered (fun i => columnWord (kept (drawn V) i)) (order fun i => rowWord (kept (drawn V) i))) := by
  refine (tabled_columns _).trans ?_
  rw [ranksOf, inOrder_starts, inOrder_rows, inOrder_columns, counted_starts, counted_rows, counted_columns, counted_order, numbered_rows,
    numbered_columns]
  rfl

theorem atGrid_positions : (atGrid V (Proc.devRef .tc main_v78) : IVec S4x14x14 32)
    = tableOf (fun i => rowWord (kept (drawn V) i)) (order fun i => rowWord (kept (drawn V) i)) := by
  refine (tabled_positions _).trans ?_
  rw [ranksOf, inOrder_starts, inOrder_rows, inOrder_order, counted_starts, counted_rows, counted_order, numbered_rows]
  rfl

theorem atGrid_strips : (atGrid V (Proc.devRef .tc main_v80) : S4x14x16x224x384.Idx → Elt F .f32)
    = shapeCast S4x14x16x224x384 (transpose S4x224x224x384 [0, 2, 3, 1] (argOf V) transposes_S4x384x224x224_S4x224x224x384_0_2_3_1)
      shapeCasts_S4x224x224x384_S4x14x16x224x384 := by
  refine (tabled_strips _).trans ?_
  rw [inOrder_arg, counted_arg, numbered_arg, drawn_arg]

end Cert.KernelIdeal.Patch

end
-- ==== Proof.Line.lean ====
/-
  The reference's run. Its main function, the functions it calls opened, is one line of host operations; `line` reads that
  line off a program, and the run leaves in every buffer what the line computes.
-/
module

public import proofs.«01_k».proof.Proof.Gen.ReferenceIdeal
public import Idealize.ShloMosaic.Lib.StableHlo.Run
import Idealize.ShloMosaic.Lib.Tactic

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F] {Λ : Labels} {α β : Type}

/-- The host operations a straight-line program runs, in order. -/
def line (p : Prog (TpuEff nD τ sig (Elt F) Λ .tc) α) : List (HloOp τ sig (Elt F)) :=
  Prog.rec (motive := fun _ => List (HloOp τ sig (Elt F))) (fun _ => [])
    (fun e _ rest => match e, rest with
      | .hloBegin _ op, rest => op :: rest ⟨⟩
      | .hloEnd _ _, rest => rest fun _ => Classical.ofNonempty
      | _, _ => []) p

/-- The reference's operations; -/
abbrev ops : List (HloOp τ sig (Elt F)) := line (main (F := F) 0)

/-- running them is running its main function, -/
theorem main_eq (c : Dev nD) : main (F := F) c = seq ops := by sl_kernel_rfl

/-- and each determines its results. -/
theorem ops_fresh : (ops (F := F)).map HloOp.fresh = (ops (F := F)).map fun _ => ∅ := by sl_kernel_rfl

/-- Every operation of a program touches the TensorCore's buffers only. -/
def Touches (p : Prog (TpuEff nD τ sig (Elt F) Λ .tc) α) : Prop := ∀ op ∈ line p, op.bufs ⊆ tcRefs τ sig

theorem touches_pure (a : α) : Touches (F := F) (Λ := Λ) (pure a) := fun _ h => nomatch h

theorem touches_bind {p : Prog (TpuEff nD τ sig (Elt F) Λ .tc) α} {k : α → Prog (TpuEff nD τ sig (Elt F) Λ .tc) β}
    (hp : Touches p) (hk : ∀ a, Touches (k a)) : Touches (p >>= k) := by
  induction p with
  | ret a => exact hk a
  | op e c ih =>
    cases e with
    | hloBegin h op =>
      intro o ho
      rcases List.mem_cons.mp (show o ∈ op :: line (c ⟨⟩ >>= k) from ho) with e | ho
      · rw [e]; exact hp op (List.mem_cons_self ..)
      · exact ih ⟨⟩ (fun o ho => hp o (List.mem_cons_of_mem _ ho)) o ho
    | hloEnd h W => exact ih _ hp
    | _ => exact fun _ h => nomatch h

theorem touches_hlo {op : HloOp τ sig (Elt F)} (h : op.bufs ⊆ tcRefs τ sig) :
    Touches (F := F) (Λ := Λ) (hlo rfl op fun _ => .ret (⟨⟩ : PUnit)) := by
  intro o ho
  rw [List.mem_singleton.mp (show o ∈ [op] from ho)]
  exact h

theorem touches_nullary (y v hy) : Touches (F := F) (Λ := Λ) (hlo rfl (nullary y v hy) fun _ => .ret (⟨⟩ : PUnit)) := touches_hlo (nullary_bufs_sub ..)
theorem touches_unary (x y f hx hy) : Touches (F := F) (Λ := Λ) (hlo rfl (unary x y f hx hy) fun _ => .ret (⟨⟩ : PUnit)) := touches_hlo (unary_bufs_sub ..)
theorem touches_binary (a b y f ha hb hy) : Touches (F := F) (Λ := Λ) (hlo rfl (binary a b y f ha hb hy) fun _ => .ret (⟨⟩ : PUnit)) :=
  touches_hlo (binary_bufs_sub ..)
theorem touches_ternary (c a b y f hc ha hb hy) : Touches (F := F) (Λ := Λ) (hlo rfl (ternary c a b y f hc ha hb hy) fun _ => .ret (⟨⟩ : PUnit)) :=
  touches_hlo (ternary_bufs_sub ..)
theorem touches_reshape (x y he hn hx hy) : Touches (F := F) (Λ := Λ) (hlo rfl (reshape x y he hn hx hy) fun _ => .ret (⟨⟩ : PUnit)) :=
  touches_hlo (reshape_bufs_sub ..)

theorem touches_fn_threefry2x32 (a0 a1 a2 a3 φ) : Touches (fn_threefry2x32.body (F := F) a0 a1 a2 a3 φ) := by
  unfold fn_threefry2x32.body fn_threefry2x32.body_part0 fn_threefry2x32.body_part1 fn_threefry2x32.body_part2 fn_threefry2x32.body_part3
  repeat' with_reducible first
    | exact touches_pure _
    | exact touches_nullary ..
    | exact touches_unary ..
    | exact touches_binary ..
    | refine touches_bind ?_ fun _ => ?_

theorem touches_fn_threefry2x32_0 (a0 a1 a2 a3 φ) : Touches (fn_threefry2x32_0.body (F := F) a0 a1 a2 a3 φ) := by
  unfold fn_threefry2x32_0.body fn_threefry2x32_0.body_part0 fn_threefry2x32_0.body_part1 fn_threefry2x32_0.body_part2 fn_threefry2x32_0.body_part3
  repeat' with_reducible first
    | exact touches_pure _
    | exact touches_nullary ..
    | exact touches_unary ..
    | exact touches_binary ..
    | refine touches_bind ?_ fun _ => ?_

/-- So does the reference. -/
theorem touches_main : Touches (main (F := F) 0) := by
  unfold main fn_threefry_fold_in.body fn_uniform.body fn_argsort.body fn_take_along_axis.body
  repeat' with_reducible first
    | exact touches_pure _
    | exact touches_fn_threefry2x32 _ _ _ _ _
    | exact touches_fn_threefry2x32_0 _ _ _ _ _
    | exact touches_nullary ..
    | exact touches_unary ..
    | exact touches_binary ..
    | exact touches_ternary ..
    | exact touches_reshape ..
    | refine touches_bind ?_ fun _ => ?_

/-- Every buffer ends with what the operations compute in it, every semaphore at zero. -/
theorem run (m : (ℓ : Loc nD τ sig) → Buf (Elt F) ℓ) (g : Dev nD → PrngReg) :
    θ_run defs (onTc (τ := τ) (main (F := F))) ⟨m, fun _ => 0, g⟩ fun r =>
      ∀ (d : Dev nD) (b : Ref sig .tc), r.2.mem ((d.tc : Thread nD τ).loc b) = after ops (launchContents m d) (Proc.devRef .tc b) :=
  run_seq (by decide) (by decide) defs main (fun _ => ops) main_eq (fun _ => List.forall_iff_forall_mem.mpr touches_main) m g
    (fun _ => List.forall_iff_forall_mem.mp (forall_fresh_of_map ops_fresh))

/-- The argument is not written. -/
theorem arg_kept (V : Valuation τ sig (Elt F)) : after ops V (Proc.devRef .tc main_arg0) = V (Proc.devRef .tc main_arg0) := by sl_kernel_rfl

end Cert.ReferenceIdeal.Line

end
-- ==== Proof.Scores.lean ====
/-
  The two programs keep the same patches. The random numbers do not read the argument, so each score, and with it each kept
  patch's number, is the same term of constants in both.
-/
module

public import proofs.«01_k».proof.Proof.Chain
public import proofs.«01_k».proof.Proof.Line
import Idealize.ShloMosaic.Lib.Tactic

@[expose] public section

set_option maxRecDepth 5452

noncomputable section

namespace Cert.KernelIdeal.Patch

open Cert.KernelIdeal Cert.KernelIdeal.Gen
open Idealize.ShloMosaic Idealize.ShloMosaic.TcCoe

variable {F : FTy → Type} [FloatOps F]

theorem same_kept (V : Valuation τ sig (Elt F)) (V' : Valuation ReferenceIdeal.τ ReferenceIdeal.sig (Elt F)) :
    kept (drawn V) = (StableHlo.after ReferenceIdeal.Line.ops V' (Proc.devRef .tc ReferenceIdeal.main_v13) : IVec S4x98 32) := by
  sl_kernel_rfl

end Cert.KernelIdeal.Patch

end
-- ==== Proof.Taken.lean ====
/-
  What the reference computes. Of the kept patches' numbers, its last operations cut the images into patches, take the kept
  ones along the last axis, and lay them out; read at an index, that is one element of the argument.
-/
module

public import proofs.«01_k».proof.Proof.Along
public import proofs.«01_k».proof.Proof.Line
public import Idealize.ShloMosaic.Lib.ValueIdxRank6
import Idealize.ShloMosaic.Lib.Pipeline.Frame
import Idealize.ShloMosaic.Lib.Tactic

@[expose] public section

set_option maxRecDepth 5452

noncomputable section

namespace Cert.ReferenceIdeal.Taken

open Cert.ReferenceIdeal Cert.ReferenceIdeal.Gen
open Idealize.ShloMosaic Idealize.ShloMosaic.TcCoe Idealize.ShloMosaic.ValueIdx
open Cert.KernelIdeal.Patch (wrapped wrapped_apply reduce_one within toInt_small)

variable {F : FTy → Type} [FloatOps F]

/-- The images cut into patches: image, channel, place in the patch, patch. -/
def patches (x : S4x384x224x224.Idx → Elt F .f32) : S4x384x256x196.Idx → Elt F .f32 :=
  shapeCast S4x384x256x196
    (transpose S4x384x16x16x14x14 [0, 1, 3, 5, 2, 4] (shapeCast S4x384x14x16x14x16 x shapeCasts_S4x384x224x224_S4x384x14x16x14x16)
      transposes_S4x384x14x16x14x16_S4x384x16x16x14x14_0_1_3_5_2_4)
    shapeCasts_S4x384x16x16x14x14_S4x384x256x196

/-- The patches' numbers as index words. -/
def words (w : IVec S4x98 32) : IVec S4x98x1 32 :=
  shapeCast S4x98x1 (wrapped 196#32 (broadcastInDim S4x1x1x98 ![0, 3] bcast_S4x98_S4x1x1x98_0_3 w)) shapeCasts_S4x1x1x98_S4x98x1

/-- Whether each is in range. -/
def inRange (i : IVec S4x98x1 32) : IVec S4x98 1 :=
  Host.reduce IntOp.andi (andi (cmpi .sge i fun _ => 0#32) (cmpi .sle i fun _ => 195#32)) (constantI S_ 1 1#1) reducesTo_S4x98x1_S4x98_d2 h_S_

/-- The patches taken, where the mask holds. -/
def masked (k : IVec S4x98 1) (y : S4x384x256x196.Idx → Elt F .f32) (i : IVec S4x98x1 32) : S4x384x256x98.Idx → Elt F .f32 :=
  select (broadcastInDim S4x384x256x98 ![0, 3] bcast_S4x98_S4x384x256x98_0_3 k)
    (Host.gather gather_S4x384x256x196_S4x98x1_S4x384x256x98_12_3_0_0_3_2_13842561 y i)
    (broadcastInDim S4x384x256x98 ![] bcast_S_S4x384x256x98 (constant S_ .f32 0x7FC00000#32))

/-- The taken patches' elements laid out: image, row, channel. -/
def laidOut (z : S4x384x256x98.Idx → Elt F .f32) : S4x25088x384.Idx → Elt F .f32 :=
  transpose S4x25088x384 [0, 2, 1] (shapeCast S4x384x25088 z shapeCasts_S4x384x256x98_S4x384x25088) transposes_S4x384x25088_S4x25088x384_0_2_1

/-- The reference's result of the argument and the kept patches' numbers. -/
def laid (x : S4x384x224x224.Idx → Elt F .f32) (w : IVec S4x98 32) : S4x25088x384.Idx → Elt F .f32 :=
  laidOut (masked (inRange (words w)) (patches x) (words w))

/-! ## Read at an index -/

theorem patches_apply (x : S4x384x224x224.Idx → Elt F .f32) (b : Fin 4) (c : Fin 384) (q : Fin 256) (n : Fin 196) :
    patches x (ix4 b c q n) = x (ix4 b c ⟨n.val / 14 * 16 + q.val / 16, by omega⟩ ⟨n.val % 14 * 16 + q.val % 16, by omega⟩) := by
  have hn := n.isLt
  have hq := q.isLt
  unfold patches
  refine (shapeCast_apply _ _ _ (ix6 b c ⟨q.val / 16, by omega⟩ ⟨q.val % 16, by omega⟩ ⟨n.val / 14, by omega⟩ ⟨n.val % 14, by omega⟩ :
    S4x384x16x16x14x14.Idx) ?_).trans ((transpose_apply _ _ _ _ (ix6 b c ⟨n.val / 14, by omega⟩ ⟨q.val / 16, by omega⟩ ⟨n.val % 14, by omega⟩ ⟨q.val % 16, by omega⟩ :
    S4x384x14x16x14x16.Idx) ?_).trans (shapeCast_apply x _ _ _ ?_))
  · rw [Shape.rowMajor_val_six, Shape.rowMajor_val_four]
    show ((((b.val * 384 + c.val) * 16 + q.val / 16) * 16 + q.val % 16) * 14 + n.val / 14) * 14 + n.val % 14
      = ((b.val * 384 + c.val) * 256 + q.val) * 196 + n.val
    omega
  · intro a
    match a with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_four]
    show ((b.val * 384 + c.val) * 224 + (n.val / 14 * 16 + q.val / 16)) * 224 + (n.val % 14 * 16 + q.val % 16)
      = ((((b.val * 384 + c.val) * 14 + n.val / 14) * 16 + q.val / 16) * 14 + n.val % 14) * 16 + q.val % 16
    omega

theorem words_apply (w : IVec S4x98 32) (b : Fin 4) (p : Fin 98) {n : ℕ} (hn : n < 196) (h : w (ix2 b p) = BitVec.ofNat 32 n) :
    words w (ix3 b p 0) = BitVec.ofNat 32 n := by
  unfold words
  refine (shapeCast_apply _ _ _ (ix4 b 0 0 p : S4x1x1x98.Idx) ?_).trans (wrapped_apply _ _ _ (by omega)
    ((broadcastInDim_apply _ _ w _ (ix2 b p) ?_).trans h))
  · rw [Shape.rowMajor_val_four, Shape.rowMajor_val_three]
    show ((b.val * 1 + 0) * 1 + 0) * 98 + p.val = (b.val * 98 + p.val) * 1 + 0
    omega
  · intro a
    match a with
    | ⟨0, _⟩ => rfl
    | ⟨1, _⟩ => rfl

theorem inRange_apply (i : IVec S4x98x1 32) (b : Fin 4) (p : Fin 98) {n : ℕ} (hn : n < 196) (h : i (ix3 b p 0) = BitVec.ofNat 32 n) :
    inRange i (ix2 b p) = 1#1 := by
  refine reduce_one _ b p ?_
  show IntOp.andi (IntOp.cmpi .sge (i (ix3 b p 0)) 0#32) (IntOp.cmpi .sle (i (ix3 b p 0)) (BitVec.ofNat 32 195)) = 1#1
  rw [h]
  exact within (by omega) (by omega)

theorem gather_apply (y : S4x384x256x196.Idx → Elt F .f32) (i : IVec S4x98x1 32) (b : Fin 4) (c : Fin 384) (q : Fin 256) (p : Fin 98) (n : Fin 196)
    (h : i (ix3 b p 0) = BitVec.ofNat 32 n.val) :
    Host.gather gather_S4x384x256x196_S4x98x1_S4x384x256x98_12_3_0_0_3_2_13842561 y i (ix4 b c q p) = y (ix4 b c q n) := by
  have hn := n.isLt
  unfold Host.gather
  generalize hd : gather_S4x384x256x196_S4x98x1_S4x384x256x98_12_3_0_0_3_2_13842561 = d
  refine congrArg y (funext fun a => Fin.ext ?_)
  show d.start (ix4 b c q p) i a + d.batchCoord (ix4 b c q p) a + d.offCoord (ix4 b c q p) a = (ix4 b c q n a).val
  subst hd
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    show 0 + b.val + 0 = b.val
    omega
  | ⟨1, _⟩ => show 0 + 0 + c.val = c.val; omega
  | ⟨2, _⟩ => show 0 + 0 + q.val = q.val; omega
  | ⟨3, _⟩ =>
    rw [GatherDims.batchCoord_eq_zero _ _ _ (fun h => by simp [gather_S4x384x256x196_S4x98x1_S4x384x256x98_12_3_0_0_3_2_13842561] at h),
      GatherDims.offCoord_eq_zero _ _ _ (fun h => ((GatherDims.mem_sKept _ _).mp h).1 (List.mem_singleton.mpr rfl))]
    have e : gather_S4x384x256x196_S4x98x1_S4x384x256x98_12_3_0_0_3_2_13842561.siIdx (ix4 b c q p) ⟨0, Nat.one_pos⟩ = ix3 b p 0 := by
      funext c
      match c with
      | ⟨0, _⟩ => rfl
      | ⟨1, _⟩ => rfl
      | ⟨2, _⟩ => rfl
    show min (i (gather_S4x384x256x196_S4x98x1_S4x384x256x98_12_3_0_0_3_2_13842561.siIdx (ix4 b c q p) ⟨0, Nat.one_pos⟩)).toInt.toNat (196 - 1) + 0 + 0 = n.val
    rw [e, h, toInt_small (by omega)]
    omega

theorem masked_apply (y : S4x384x256x196.Idx → Elt F .f32) (i : IVec S4x98x1 32) (b : Fin 4) (c : Fin 384) (q : Fin 256) (p : Fin 98) (n : Fin 196)
    (h : i (ix3 b p 0) = BitVec.ofNat 32 n.val) : masked (inRange i) y i (ix4 b c q p) = y (ix4 b c q n) := by
  unfold masked
  show Scalar.select _ _ _ = _
  rw [gather_apply y i b c q p n h, broadcastInDim_apply _ _ (inRange i) _ (ix2 b p) (fun a => match a with | ⟨0, _⟩ => rfl | ⟨1, _⟩ => rfl),
    inRange_apply i b p n.isLt h]
  rfl

/-- Row `q · 98 + p` of the result is the place `q` of the image's kept patch `p`. -/
theorem laid_apply (x : S4x384x224x224.Idx → Elt F .f32) (w : IVec S4x98 32) (b : Fin 4) (q : Fin 256) (p : Fin 98) (c : Fin 384) (n : Fin 196)
    (h : w (ix2 b p) = BitVec.ofNat 32 n.val) :
    laid x w (ix3 b ⟨q.val * 98 + p.val, by omega⟩ c)
      = x (ix4 b c ⟨n.val / 14 * 16 + q.val / 16, by omega⟩ ⟨n.val % 14 * 16 + q.val % 16, by omega⟩) := by
  unfold laid laidOut
  refine (transpose_apply _ _ _ _ (ix3 b c ⟨q.val * 98 + p.val, by omega⟩ : S4x384x25088.Idx) ?_).trans
    ((shapeCast_apply _ _ _ (ix4 b c q p : S4x384x256x98.Idx) ?_).trans
      ((masked_apply (patches x) (words w) b c q p n (words_apply w b p n.isLt h)).trans (patches_apply x b c q n)))
  · intro a
    match a with
    | ⟨0, _⟩ => rfl
    | ⟨1, _⟩ => rfl
    | ⟨2, _⟩ => rfl
  · rw [Shape.rowMajor_val_four, Shape.rowMajor_val_three]
    show ((b.val * 384 + c.val) * 256 + q.val) * 98 + p.val = (b.val * 384 + c.val) * 25088 + (q.val * 98 + p.val)
    omega

/-! ## The run's last operations -/

variable (V : Valuation τ sig (Elt F))

/-- The operations up to the kept patches' numbers, and the twenty-six after them: -/
def drawing : List (HloOp τ sig (Elt F)) := Line.ops.take ((Line.ops (F := F)).length - 26)
@[inherit_doc drawing] def taking : List (HloOp τ sig (Elt F)) := Line.ops.drop ((Line.ops (F := F)).length - 26)
/-- the ones that make the index words, -/
def wording : List (HloOp τ sig (Elt F)) := taking.take 9
/-- compare them with the range, -/
def checking : List (HloOp τ sig (Elt F)) := (taking.drop 9).take 10
/-- gather and mask the patches, -/
def picking : List (HloOp τ sig (Elt F)) := ((taking.drop 9).drop 10).take 5
/-- and lay them out. -/
def laying : List (HloOp τ sig (Elt F)) := ((taking.drop 9).drop 10).drop 5

theorem after_taking : StableHlo.after taking V
    = StableHlo.after laying (StableHlo.after picking (StableHlo.after checking (StableHlo.after wording V))) := by
  rw [← StableHlo.after_append, ← StableHlo.after_append, ← StableHlo.after_append]
  unfold wording checking picking laying
  rw [List.take_append_drop, List.take_append_drop, List.take_append_drop]

theorem after_ops : StableHlo.after Line.ops V = StableHlo.after taking (StableHlo.after drawing V) := by
  rw [← StableHlo.after_append]
  unfold drawing taking
  rw [List.take_append_drop]

/-- The buffers that pass from one to the next: the patches, the patches' numbers, the index words, the mask, and the patches
    taken. -/
abbrev patchesOf : S4x384x256x196.Idx → Elt F .f32 := V (Proc.devRef .tc main_v2)
@[inherit_doc patchesOf] abbrev numbersOf : IVec S4x98 32 := V (Proc.devRef .tc main_v13)
@[inherit_doc patchesOf] abbrev wordsOf : IVec S4x98x1 32 := V (Proc.devRef .tc main_call3_v5)
@[inherit_doc patchesOf] abbrev maskOf : IVec S4x98 1 := V (Proc.devRef .tc main_call3_v12)
@[inherit_doc patchesOf] abbrev takenOf : S4x384x256x98.Idx → Elt F .f32 := V (Proc.devRef .tc main_v15)

theorem drawing_patches : patchesOf (StableHlo.after drawing V) = patches (V (Proc.devRef .tc main_arg0)) := by sl_kernel_rfl
theorem taking_numbers : numbersOf (StableHlo.after taking V) = numbersOf V := by sl_kernel_rfl

theorem wording_words : wordsOf (StableHlo.after wording V) = words (numbersOf V) := by sl_kernel_rfl
theorem wording_patches : patchesOf (StableHlo.after wording V) = patchesOf V := by sl_kernel_rfl
theorem checking_mask : maskOf (StableHlo.after checking V) = inRange (wordsOf V) := by sl_kernel_rfl
theorem checking_words : wordsOf (StableHlo.after checking V) = wordsOf V := by sl_kernel_rfl
theorem checking_patches : patchesOf (StableHlo.after checking V) = patchesOf V := by sl_kernel_rfl
theorem picking_taken : takenOf (StableHlo.after picking V) = masked (maskOf V) (patchesOf V) (wordsOf V) := by sl_kernel_rfl
theorem laying_result : (StableHlo.after laying V (Proc.devRef .tc main_v17) : S4x25088x384.Idx → Elt F .f32) = laidOut (takenOf V) := by sl_kernel_rfl

/-- The result, of the argument and the kept patches' numbers. -/
theorem result_laid : (StableHlo.after Line.ops V (Proc.devRef .tc main_v17) : S4x25088x384.Idx → Elt F .f32)
    = laid (V (Proc.devRef .tc main_arg0)) (numbersOf (StableHlo.after Line.ops V)) := by
  rw [after_ops, taking_numbers, after_taking]
  refine (laying_result _).trans ?_
  rw [picking_taken, checking_mask, checking_patches, checking_words, wording_words, wording_patches, drawing_patches]
  rfl

end Cert.ReferenceIdeal.Taken

end
-- ==== Proof.Value.lean ====
/-
  The value. The plan the tables follow sends patch position `p` of image `b` to the row and the column of the patch the
  scores keep there, so the kernel's result is the reference's: both lay out the same kept patches of the argument.
-/
module

public import proofs.«01_k».proof.Proof.Run
public import proofs.«01_k».proof.Proof.Holds
public import proofs.«01_k».proof.Proof.Scores
public import proofs.«01_k».proof.Proof.Taken
import Idealize.ShloMosaic.Lib.Pipeline.Frame

@[expose] public section

set_option maxRecDepth 5452

noncomputable section

namespace Cert.KernelIdeal.Patch

open Cert.KernelIdeal Cert.KernelIdeal.Gen
open Idealize.ShloMosaic Idealize.ShloMosaic.TcCoe Idealize.ShloMosaic.ValueIdx Idealize.SL.Sem

variable {F : FTy → Type} [FloatOps F]

/-! ## The plan -/

theorem entry_eq (m : (ℓ : Loc nD τ sig) → Buf (Elt F) ℓ) (c : Dev nD) : entry m c = atGrid (fun b => m (c, b)) := by
  unfold entry
  rw [show (stretches (F := F)) = drawing ++ (numbering ++ (counting ++ (ordering ++ tabling))) from rfl, List.flatten_append, List.flatten_append,
    List.flatten_append, List.flatten_append, StableHlo.after_append, StableHlo.after_append, StableHlo.after_append, StableHlo.after_append]

/-- A plan sends each position to the row and the column of the patch numbered `f`. -/
structure Follows (P : Plan) (f : Fin 4 → Fin 98 → ℕ) : Prop where
  lt : ∀ b p, f b p < 196
  row : ∀ b p, (P.slot b p).1.val = f b p / 14
  column : ∀ b p, (P.pw b (P.slot b p).1 (P.slot b p).2).val = f b p % 14

/-- Tables built of the kept patches are those of a plan that follows them; -/
theorem exists_plan (s : S4x196.Idx → F .f32) {f20 : IVec S4x14 32} {f56 f78 : IVec S4x14x14 32} (h20 : f20 = counts fun i => rowWord (picks s i))
    (h56 : f56 = tableOf (fun i => rowWord (picks s i)) (ordered (fun i => columnWord (picks s i)) (order fun i => rowWord (picks s i))))
    (h78 : f78 = tableOf (fun i => rowWord (picks s i)) (order fun i => rowWord (picks s i))) :
    ∃ (P : Plan) (f : Fin 4 → Fin 98 → ℕ), Follows P f ∧ (∀ b p, picks s (ix2 b p) = BitVec.ofNat 32 (f b p)) ∧ P.Tables f20 f56 f78 := by
  obtain ⟨f, hlt, hinj, hf⟩ := picks_spec s
  rw [h20, h56, h78]
  generalize picks s = w at hf
  have hh : ∀ b p, (fun i => rowWord (w i)) (ix2 b p) = BitVec.ofNat 32 (f b p / 14) := fun b p =>
    (congrArg rowWord (hf b p)).trans (rowWord_ofNat (hlt b p))
  exact ⟨planOf (rankings f hlt hinj _ hh), f, ⟨hlt, fun _ _ => rfl, fun b p => congrArg Fin.val (planOf_pw_slot _ b p)⟩, hf,
    tables_hold f hlt hinj _ hh (fun i => columnWord (w i)) fun b p => (congrArg columnWord (hf b p)).trans (columnWord_ofNat (hlt b p))⟩

/-- the tables at the grid are. -/
theorem grid_plan (V : Valuation τ sig (Elt F)) : ∃ (P : Plan) (f : Fin 4 → Fin 98 → ℕ), Follows P f
    ∧ (∀ b p, kept (drawn V) (ix2 b p) = BitVec.ofNat 32 (f b p))
    ∧ P.Tables (countsOf (atGrid V)) (atGrid V (Proc.devRef .tc main_v56)) (atGrid V (Proc.devRef .tc main_v78)) :=
  exists_plan _ (atGrid_counts V) (atGrid_columns V) (atGrid_positions V)

/-! ## The patch array at an index -/

/-- The strips of an argument: image, patch row, row in it, column, channel. -/
def stripsOf (x : S4x384x224x224.Idx → Elt F .f32) : S4x14x16x224x384.Idx → Elt F .f32 :=
  shapeCast S4x14x16x224x384 (transpose S4x224x224x384 [0, 2, 3, 1] x transposes_S4x384x224x224_S4x224x224x384_0_2_3_1)
    shapeCasts_S4x224x224x384_S4x14x16x224x384

theorem stripsOf_apply (x : S4x384x224x224.Idx → Elt F .f32) (b : Fin 4) (r : Fin 14) (i : Fin 16) (y : Fin 224) (c : Fin 384) :
    stripsOf x (ix5 b r i y c) = x (ix4 b c ⟨r.val * 16 + i.val, by omega⟩ y) := by
  unfold stripsOf
  refine (shapeCast_apply _ _ _ (ix4 b ⟨r.val * 16 + i.val, by omega⟩ y c : S4x224x224x384.Idx) ?_).trans (transpose_apply _ x _ _ _ ?_)
  · rw [Shape.rowMajor_val_four, Shape.rowMajor_val_five]
    show ((b.val * 224 + (r.val * 16 + i.val)) * 224 + y.val) * 384 + c.val = (((b.val * 14 + r.val) * 16 + i.val) * 224 + y.val) * 384 + c.val
    omega
  · intro a
    match a with
    | ⟨0, _⟩ => rfl
    | ⟨1, _⟩ => rfl
    | ⟨2, _⟩ => rfl
    | ⟨3, _⟩ => rfl

theorem result_apply {P : Plan} {f : Fin 4 → Fin 98 → ℕ} (hP : Follows P f) (x : S4x384x224x224.Idx → Elt F .f32) (b : Fin 4) (q : Fin 256) (p : Fin 98)
    (c : Fin 384) :
    shapeCast S4x25088x384 (P.result (stripsOf x)) shapeCasts_S4x16x16x98x384_S4x25088x384 (ix3 b ⟨q.val * 98 + p.val, by omega⟩ c)
      = x (ix4 b c ⟨f b p / 14 * 16 + q.val / 16, by have := hP.lt b p; omega⟩ ⟨f b p % 14 * 16 + q.val % 16, by omega⟩) := by
  refine (shapeCast_apply (P.result (stripsOf x)) _ _ (ix5 b ⟨q.val / 16, by omega⟩ ⟨q.val % 16, by omega⟩ p c : S4x16x16x98x384.Idx) ?_).trans
    ((stripsOf_apply x b (P.slot b p).1 ⟨q.val / 16, by omega⟩ (Plan.col (P.pw b (P.slot b p).1 (P.slot b p).2) ⟨q.val % 16, by omega⟩) c).trans
      (congrArg x (funext fun a => Fin.ext ?_)))
  · rw [Shape.rowMajor_val_five, Shape.rowMajor_val_three]
    show (((b.val * 16 + q.val / 16) * 16 + q.val % 16) * 98 + p.val) * 384 + c.val = (b.val * 25088 + (q.val * 98 + p.val)) * 384 + c.val
    omega
  · match a with
    | ⟨0, _⟩ => rfl
    | ⟨1, _⟩ => rfl
    | ⟨2, _⟩ => show (P.slot b p).1.val * 16 + q.val / 16 = f b p / 14 * 16 + q.val / 16; rw [hP.row]
    | ⟨3, _⟩ => show (P.pw b (P.slot b p).1 (P.slot b p).2).val * 16 + q.val % 16 = f b p % 14 * 16 + q.val % 16; rw [hP.column]

/-- The two results are the same array. -/
theorem result_eq {P : Plan} {f : Fin 4 → Fin 98 → ℕ} (hP : Follows P f) (x : S4x384x224x224.Idx → Elt F .f32) (w : IVec S4x98 32)
    (hw : ∀ b p, w (ix2 b p) = BitVec.ofNat 32 (f b p)) :
    (shapeCast S4x25088x384 (P.result (stripsOf x)) shapeCasts_S4x16x16x98x384_S4x25088x384 : S4x25088x384.Idx → Elt F .f32)
      = ReferenceIdeal.Taken.laid x w := by
  have key (b : Fin 4) (q : Fin 256) (p : Fin 98) (c : Fin 384) := (result_apply hP x b q p c).trans
    (ReferenceIdeal.Taken.laid_apply x w b q p c ⟨f b p, hP.lt b p⟩ (hw b p)).symm
  funext j
  have hr : (j 1).val < 25088 := (j 1).isLt
  have e : j = ix3 (j 0) ⟨(⟨(j 1).val / 98, by omega⟩ : Fin 256).val * 98 + (⟨(j 1).val % 98, by omega⟩ : Fin 98).val, by
      show (j 1).val / 98 * 98 + (j 1).val % 98 < 25088; omega⟩ (j 2) := by
    funext a
    match a with
    | ⟨0, _⟩ => rfl
    | ⟨1, _⟩ => exact Fin.ext (by show (j 1).val = (j 1).val / 98 * 98 + (j 1).val % 98; omega)
    | ⟨2, _⟩ => rfl
  rw [e]
  exact key (j 0) ⟨(j 1).val / 98, by omega⟩ ⟨(j 1).val % 98, by omega⟩ (j 2)

/-! ## The run -/

/-- The kernel runs, leaves its argument and every semaphore, and its result is the reference's last operations' of the
    argument and the patches the reference keeps. -/
theorem run_value (m : (ℓ : Loc nD τ sig) → Buf (Elt F) ℓ) (g : Dev nD → PrngReg)
    (V' : Dev nD → Valuation ReferenceIdeal.τ ReferenceIdeal.sig (Elt F)) :
    θ_run defs (onTc (τ := τ) (main (F := F))) ⟨m, fun _ => 0, g⟩ fun r =>
      (∀ c : Dev nD, r.2.mem ((c.tc : Thread nD τ).loc main_v82)
          = (ReferenceIdeal.Taken.laid (m ((c.tc : Thread nD τ).loc main_arg0))
            (ReferenceIdeal.Taken.numbersOf (StableHlo.after ReferenceIdeal.Line.ops (V' c))) : S4x25088x384.Idx → Elt F .f32)
        ∧ r.2.mem ((c.tc : Thread nD τ).loc main_arg0) = m ((c.tc : Thread nD τ).loc main_arg0))
      ∧ r.2.sem = fun _ => 0 := by
  obtain ⟨P, f, hP, hf, hT⟩ := grid_plan (F := F) fun b => m (0, b)
  have hw (c : Dev nD) : shapeCast S4x25088x384 (P.result (strips (entry m) c)) shapeCasts_S4x16x16x98x384_S4x25088x384
      = ReferenceIdeal.Taken.laid (m ((c.tc : Thread nD τ).loc main_arg0))
        (ReferenceIdeal.Taken.numbersOf (StableHlo.after ReferenceIdeal.Line.ops (V' c))) := by
    rw [show strips (entry m) c = stripsOf (m ((c.tc : Thread nD τ).loc main_arg0)) by
      unfold strips
      rw [entry_eq]
      exact atGrid_strips _]
    refine result_eq hP _ _ fun b p => ?_
    rw [← hf b p, same_kept (fun b => m (0, b)) (V' c)]
  refine (θ_run defs _ _).mono ?_ (run m g P ?_)
  · exact fun r h => ⟨fun c => ⟨((h.1 c).1).trans (hw c), (h.1 c).2⟩, h.2⟩
  · rw [entry_eq]
    exact hT

end Cert.KernelIdeal.Patch

end
-- ==== Proof.lean ====
/-
  The claims. The kernel's run and its value are `Proof.Value`'s; the kernel read at the machine's numbers runs as well,
  since its run does not depend on what a number is; the reference's run is `Proof.Line`'s and its value `Proof.Taken`'s.
-/
module

public import proofs.«01_k».proof.Defs
public import proofs.«01_k».proof.Proof.Transport
public import proofs.«01_k».proof.Proof.Value

@[expose] public section

noncomputable section

namespace Cert.Proof

open Idealize.ShloMosaic Idealize.ShloMosaic.TcCoe Idealize.SL.Sem

/-- The kernel runs, at any numbers, and leaves its argument and every semaphore; -/
theorem idealized_runs (F : FTy → Type) [FloatOps F] : Transport.KernelIdealRuns F := fun m g =>
  (θ_run _ _ _).mono (fun _ h => ⟨fun c => (h.1 c).2, h.2⟩) (KernelIdeal.Patch.run_value m g fun _ _ => Classical.ofNonempty)

/-- so does its other print; -/
theorem kernel_runs (F : FTy → Type) [FloatOps F] : Transport.KernelRuns F := (Transport.runs_eq F).mpr (idealized_runs F)

/-- and so does the reference, whose result is its last operations' of the argument and the patches it keeps. -/
theorem reference_runs {F : FTy → Type} [FloatOps F] (m : (ℓ : Loc ReferenceIdeal.nD ReferenceIdeal.τ ReferenceIdeal.sig) → Buf (Elt F) ℓ)
    (g : Dev ReferenceIdeal.nD → PrngReg) :
    θ_run (ReferenceIdeal.defs (F := F)) (onTc (τ := ReferenceIdeal.τ) (ReferenceIdeal.main (F := F))) ⟨m, fun _ => 0, g⟩ fun r =>
      (∀ c : Dev ReferenceIdeal.nD, r.2.mem ((c.tc : Thread ReferenceIdeal.nD ReferenceIdeal.τ).loc ReferenceIdeal.main_v17)
          = (ReferenceIdeal.Taken.laid (m ((c.tc : Thread ReferenceIdeal.nD ReferenceIdeal.τ).loc ReferenceIdeal.main_arg0))
            (ReferenceIdeal.Taken.numbersOf (StableHlo.after ReferenceIdeal.Line.ops (StableHlo.launchContents m c))) :
              ReferenceIdeal.S4x25088x384.Idx → Elt F .f32)
        ∧ r.2.mem ((c.tc : Thread ReferenceIdeal.nD ReferenceIdeal.τ).loc ReferenceIdeal.main_arg0)
          = m ((c.tc : Thread ReferenceIdeal.nD ReferenceIdeal.τ).loc ReferenceIdeal.main_arg0))
      ∧ r.2.sem = fun _ => 0 :=
  (θ_run _ _ _).mono (fun r h => ⟨fun c => ⟨(h c _).trans (ReferenceIdeal.Taken.result_laid _), (h c _).trans (ReferenceIdeal.Line.arg_kept _)⟩,
    sem_eq_zero_of_no_sems (by decide) r.2⟩) (ReferenceIdeal.Line.run m g)

theorem claim : Cert.Claim := by
  refine ⟨Cert.Kernel.Gen.facts, Cert.KernelIdeal.Gen.facts, Cert.ReferenceIdeal.Gen.facts, fun m g _ => kernel_runs Bits m g,
    fun m g _ => idealized_runs Ideal m g, fun m g _ => ?_, trivial, fun m g m' g' _ hm => ?_⟩
  · exact (θ_run _ _ _).mono (fun _ h => ⟨fun c => (h.1 c).2, h.2⟩) (reference_runs m g)
  · refine ⟨_, (θ_run _ _ _).mono (fun _ h => h.1) (KernelIdeal.Patch.run_value m g fun c => StableHlo.launchContents m' c),
      (θ_run _ _ _).mono (fun _ h c => ⟨((h.1 c).1).trans ?_, (h.1 c).2⟩) (reference_runs m' g')⟩
    rw [hm c]

end Cert.Proof

end
